-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S8x64x2x128 Cert.KernelIdeal.S8x64x1x128
  ∧ IdealRules.bf16_pair.Statement Cert.KernelIdeal.S16x128 Cert.KernelIdeal.S8x128
  ∧ IdealRules.bf16_pair.Statement Cert.KernelIdeal.S1x8x2x128 Cert.KernelIdeal.S1x8x1x128
  ∧ IdealRules.bf16_pair.Statement Cert.KernelIdeal.S1x1x2x128 Cert.KernelIdeal.S1x1x1x128
  ∧ IdealRules.bf16_pair.Statement Cert.KernelIdeal.S2x128 Cert.KernelIdeal.S1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1x8192 : Shape := ⟨3, ![256, 1, 8192]⟩
abbrev S8192x2048 : Shape := ⟨2, ![8192, 2048]⟩
abbrev S64x2048 : Shape := ⟨2, ![64, 2048]⟩
abbrev S64x16384 : Shape := ⟨2, ![64, 16384]⟩
abbrev S256x8192 : Shape := ⟨2, ![256, 8192]⟩
abbrev S256x16384 : Shape := ⟨2, ![256, 16384]⟩
abbrev S1024x128 : Shape := ⟨2, ![1024, 128]⟩
abbrev S64x128 : Shape := ⟨2, ![64, 128]⟩
abbrev S64x1024 : Shape := ⟨2, ![64, 1024]⟩
abbrev S256x1024 : Shape := ⟨2, ![256, 1024]⟩
abbrev S8x64x128 : Shape := ⟨3, ![8, 64, 128]⟩
abbrev S1024x1024 : Shape := ⟨2, ![1024, 1024]⟩
abbrev S8x128 : Shape := ⟨2, ![8, 128]⟩
abbrev S1x8x128 : Shape := ⟨3, ![1, 8, 128]⟩
abbrev S16x128 : Shape := ⟨2, ![16, 128]⟩
abbrev S16x128x1 : Shape := ⟨3, ![16, 128, 1]⟩
abbrev S128x128 : Shape := ⟨2, ![128, 128]⟩
abbrev S1x1x128 : Shape := ⟨3, ![1, 1, 128]⟩
abbrev S1x128 : Shape := ⟨2, ![1, 128]⟩
abbrev S2x128 : Shape := ⟨2, ![2, 128]⟩
abbrev S1x2x128 : Shape := ⟨3, ![1, 2, 128]⟩
abbrev S64x2x128 : Shape := ⟨3, ![64, 2, 128]⟩
abbrev S256x1x16384 : Shape := ⟨3, ![256, 1, 16384]⟩

abbrev nBuf : Space → Nat
  | .hbm => 7
  | .vmem => 13
  | .smem => 0
  | _ => 0

abbrev bufTy : (tb : Table) → Fin (tcTables nBuf tb) → BufTy
  | .hbm, ⟨0, _⟩ => ⟨S256x1x8192, .bf16⟩
  | .hbm, ⟨1, _⟩ => ⟨S8192x2048, .i32⟩
  | .hbm, ⟨2, _⟩ => ⟨S64x2048, .i32⟩
  | .hbm, ⟨3, _⟩ => ⟨S64x16384, .bf16⟩
  | .hbm, ⟨4, _⟩ => ⟨S256x8192, .bf16⟩
  | .hbm, ⟨5, _⟩ => ⟨S256x16384, .bf16⟩
  | .hbm, ⟨6, _⟩ => ⟨S256x1x16384, .bf16⟩
  | .local _ .vmem, ⟨0, _⟩ => ⟨S256x8192, .bf16⟩
  | .local _ .vmem, ⟨1, _⟩ => ⟨S1024x128, .i32⟩
  | .local _ .vmem, ⟨2, _⟩ => ⟨S1024x128, .i32⟩
  | .local _ .vmem, ⟨3, _⟩ => ⟨S64x128, .i32⟩
  | .local _ .vmem, ⟨4, _⟩ => ⟨S64x128, .i32⟩
  | .local _ .vmem, ⟨5, _⟩ => ⟨S64x1024, .bf16⟩
  | .local _ .vmem, ⟨6, _⟩ => ⟨S64x1024, .bf16⟩
  | .local _ .vmem, ⟨7, _⟩ => ⟨S256x1024, .bf16⟩
  | .local _ .vmem, ⟨8, _⟩ => ⟨S256x1024, .bf16⟩
  | .local _ .vmem, ⟨9, _⟩ => ⟨S8x64x128, .i32⟩
  | .local _ .vmem, ⟨10, _⟩ => ⟨S8x64x128, .i32⟩
  | .local _ .vmem, ⟨11, _⟩ => ⟨S1024x1024, .bf16⟩
  | .local _ .vmem, ⟨12, _⟩ => ⟨S256x1024, .f32⟩
  | _, _ => ⟨S256x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨2, ![16, 8], ![false, false]⟩

def k0_mult1 : BitVec 32 :=
  let c0_i32_1 : BitVec 32 := 0#32
  let c128_i32 : BitVec 32 := 128#32
  let v5 : BitVec 32 := Scalar.muli c0_i32_1 c128_i32
  v5
def k0_off1 (c0_i32_1 : BitVec 32) : Fin 2 → Nat :=
  let c128_i32 : BitVec 32 := 128#32
  let v5 : BitVec 32 := Scalar.muli c0_i32_1 c128_i32
  let v6 : BitVec 32 := v5
  let v7 : Index := Scalar.indexCast v6
  let c0 : Index := 0#32
  ![v7.toNat, 0]
def k0_off2 (i : grid0.Coords) (c0_i32_1 : BitVec 32) : Fin 3 → Nat :=
  let c0_3 : Index := 0#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v22 : Index := Scalar.indexCast v4
  let c0_4 : Index := 0#32
  ![0, v22.toNat, 0]
def k0_mult2 : BitVec 32 :=
  let c0_i32_1 : BitVec 32 := 0#32
  let c128_i32_7 : BitVec 32 := 128#32
  let v38 : BitVec 32 := Scalar.muli c0_i32_1 c128_i32_7
  v38
def k0_off3 (c0_i32_1 : BitVec 32) : Fin 2 → Nat :=
  let c128_i32_7 : BitVec 32 := 128#32
  let v38 : BitVec 32 := Scalar.muli c0_i32_1 c128_i32_7
  let v39 : BitVec 32 := v38
  let v40 : Index := Scalar.indexCast v39
  let c0_8 : Index := 0#32
  ![v40.toNat, 0]
def k0_off4 (i : grid0.Coords) (c0_i32_1 : BitVec 32) : Fin 3 → Nat :=
  let c1 : Index := 1#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v51 : Index := Scalar.indexCast v4
  let c0_12 : Index := 0#32
  ![1, v51.toNat, 0]
def k0_mult3 : BitVec 32 :=
  let c0_i32_1 : BitVec 32 := 0#32
  let c128_i32_15 : BitVec 32 := 128#32
  let v67 : BitVec 32 := Scalar.muli c0_i32_1 c128_i32_15
  v67
def k0_off5 (c0_i32_1 : BitVec 32) : Fin 2 → Nat :=
  let c128_i32_15 : BitVec 32 := 128#32
  let v67 : BitVec 32 := Scalar.muli c0_i32_1 c128_i32_15
  let v68 : BitVec 32 := v67
  let v69 : Index := Scalar.indexCast v68
  let c128 : Index := 128#32
  ![v69.toNat, 128]
def k0_off6 (i : grid0.Coords) (c0_i32_1 : BitVec 32) : Fin 3 → Nat :=
  let c2 : Index := 2#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v80 : Index := Scalar.indexCast v4
  let c0_18 : Index := 0#32
  ![2, v80.toNat, 0]
def k0_mult4 : BitVec 32 :=
  let c0_i32_1 : BitVec 32 := 0#32
  let c128_i32_21 : BitVec 32 := 128#32
  let v96 : BitVec 32 := Scalar.muli c0_i32_1 c128_i32_21
  v96
def k0_off7 (c0_i32_1 : BitVec 32) : Fin 2 → Nat :=
  let c128_i32_21 : BitVec 32 := 128#32
  let v96 : BitVec 32 := Scalar.muli c0_i32_1 c128_i32_21
  let v97 : BitVec 32 := v96
  let v98 : Index := Scalar.indexCast v97
  let c256 : Index := 256#32
  ![v98.toNat, 256]
def k0_off8 (i : grid0.Coords) (c0_i32_1 : BitVec 32) : Fin 3 → Nat :=
  let c3 : Index := 3#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v109 : Index := Scalar.indexCast v4
  let c0_25 : Index := 0#32
  ![3, v109.toNat, 0]
def k0_mult5 : BitVec 32 :=
  let c0_i32_1 : BitVec 32 := 0#32
  let c128_i32_28 : BitVec 32 := 128#32
  let v125 : BitVec 32 := Scalar.muli c0_i32_1 c128_i32_28
  v125
def k0_off9 (c0_i32_1 : BitVec 32) : Fin 2 → Nat :=
  let c128_i32_28 : BitVec 32 := 128#32
  let v125 : BitVec 32 := Scalar.muli c0_i32_1 c128_i32_28
  let v126 : BitVec 32 := v125
  let v127 : Index := Scalar.indexCast v126
  let c384 : Index := 384#32
  ![v127.toNat, 384]
def k0_off10 (i : grid0.Coords) (c0_i32_1 : BitVec 32) : Fin 3 → Nat :=
  let c4 : Index := 4#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v138 : Index := Scalar.indexCast v4
  let c0_32 : Index := 0#32
  ![4, v138.toNat, 0]
def k0_mult6 : BitVec 32 :=
  let c0_i32_1 : BitVec 32 := 0#32
  let c128_i32_35 : BitVec 32 := 128#32
  let v154 : BitVec 32 := Scalar.muli c0_i32_1 c128_i32_35
  v154
def k0_off11 (c0_i32_1 : BitVec 32) : Fin 2 → Nat :=
  let c128_i32_35 : BitVec 32 := 128#32
  let v154 : BitVec 32 := Scalar.muli c0_i32_1 c128_i32_35
  let v155 : BitVec 32 := v154
  let v156 : Index := Scalar.indexCast v155
  let c512 : Index := 512#32
  ![v156.toNat, 512]
def k0_off12 (i : grid0.Coords) (c0_i32_1 : BitVec 32) : Fin 3 → Nat :=
  let c5 : Index := 5#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v167 : Index := Scalar.indexCast v4
  let c0_39 : Index := 0#32
  ![5, v167.toNat, 0]
def k0_mult7 : BitVec 32 :=
  let c0_i32_1 : BitVec 32 := 0#32
  let c128_i32_42 : BitVec 32 := 128#32
  let v183 : BitVec 32 := Scalar.muli c0_i32_1 c128_i32_42
  v183
def k0_off13 (c0_i32_1 : BitVec 32) : Fin 2 → Nat :=
  let c128_i32_42 : BitVec 32 := 128#32
  let v183 : BitVec 32 := Scalar.muli c0_i32_1 c128_i32_42
  let v184 : BitVec 32 := v183
  let v185 : Index := Scalar.indexCast v184
  let c640 : Index := 640#32
  ![v185.toNat, 640]
def k0_off14 (i : grid0.Coords) (c0_i32_1 : BitVec 32) : Fin 3 → Nat :=
  let c6 : Index := 6#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v196 : Index := Scalar.indexCast v4
  let c0_45 : Index := 0#32
  ![6, v196.toNat, 0]
def k0_mult8 : BitVec 32 :=
  let c0_i32_1 : BitVec 32 := 0#32
  let c128_i32_48 : BitVec 32 := 128#32
  let v212 : BitVec 32 := Scalar.muli c0_i32_1 c128_i32_48
  v212
def k0_off15 (c0_i32_1 : BitVec 32) : Fin 2 → Nat :=
  let c128_i32_48 : BitVec 32 := 128#32
  let v212 : BitVec 32 := Scalar.muli c0_i32_1 c128_i32_48
  let v213 : BitVec 32 := v212
  let v214 : Index := Scalar.indexCast v213
  let c768 : Index := 768#32
  ![v214.toNat, 768]
def k0_off16 (i : grid0.Coords) (c0_i32_1 : BitVec 32) : Fin 3 → Nat :=
  let c7 : Index := 7#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v225 : Index := Scalar.indexCast v4
  let c0_52 : Index := 0#32
  ![7, v225.toNat, 0]
def k0_mult9 : BitVec 32 :=
  let c0_i32_1 : BitVec 32 := 0#32
  let c128_i32_55 : BitVec 32 := 128#32
  let v241 : BitVec 32 := Scalar.muli c0_i32_1 c128_i32_55
  v241
def k0_off17 (c0_i32_1 : BitVec 32) : Fin 2 → Nat :=
  let c128_i32_55 : BitVec 32 := 128#32
  let v241 : BitVec 32 := Scalar.muli c0_i32_1 c128_i32_55
  let v242 : BitVec 32 := v241
  let v243 : Index := Scalar.indexCast v242
  let c896 : Index := 896#32
  ![v243.toNat, 896]
def k0_mult10 : BitVec 32 :=
  let c1_i32 : BitVec 32 := 1#32
  let c128_i32_57 : BitVec 32 := 128#32
  let v249 : BitVec 32 := Scalar.muli c1_i32 c128_i32_57
  v249
def k0_mult11 : BitVec 32 :=
  let c1_i32 : BitVec 32 := 1#32
  let c128_i32_67 : BitVec 32 := 128#32
  let v282 : BitVec 32 := Scalar.muli c1_i32 c128_i32_67
  v282
def k0_mult12 : BitVec 32 :=
  let c1_i32 : BitVec 32 := 1#32
  let c128_i32_76 : BitVec 32 := 128#32
  let v311 : BitVec 32 := Scalar.muli c1_i32 c128_i32_76
  v311
def k0_mult13 : BitVec 32 :=
  let c1_i32 : BitVec 32 := 1#32
  let c128_i32_85 : BitVec 32 := 128#32
  let v340 : BitVec 32 := Scalar.muli c1_i32 c128_i32_85
  v340
def k0_mult14 : BitVec 32 :=
  let c1_i32 : BitVec 32 := 1#32
  let c128_i32_94 : BitVec 32 := 128#32
  let v369 : BitVec 32 := Scalar.muli c1_i32 c128_i32_94
  v369
def k0_mult15 : BitVec 32 :=
  let c1_i32 : BitVec 32 := 1#32
  let c128_i32_103 : BitVec 32 := 128#32
  let v398 : BitVec 32 := Scalar.muli c1_i32 c128_i32_103
  v398
def k0_mult16 : BitVec 32 :=
  let c1_i32 : BitVec 32 := 1#32
  let c128_i32_112 : BitVec 32 := 128#32
  let v427 : BitVec 32 := Scalar.muli c1_i32 c128_i32_112
  v427
def k0_mult17 : BitVec 32 :=
  let c1_i32 : BitVec 32 := 1#32
  let c128_i32_121 : BitVec 32 := 128#32
  let v456 : BitVec 32 := Scalar.muli c1_i32 c128_i32_121
  v456
def k0_mult18 : BitVec 32 :=
  let c1_i32 : BitVec 32 := 1#32
  let c128_i32_130 : BitVec 32 := 128#32
  let v485 : BitVec 32 := Scalar.muli c1_i32 c128_i32_130
  v485
def k0_mult19 : BitVec 32 :=
  let c2_i32 : BitVec 32 := 2#32
  let c128_i32_133 : BitVec 32 := 128#32
  let v493 : BitVec 32 := Scalar.muli c2_i32 c128_i32_133
  v493
def k0_mult20 : BitVec 32 :=
  let c2_i32 : BitVec 32 := 2#32
  let c128_i32_143 : BitVec 32 := 128#32
  let v526 : BitVec 32 := Scalar.muli c2_i32 c128_i32_143
  v526
def k0_mult21 : BitVec 32 :=
  let c2_i32 : BitVec 32 := 2#32
  let c128_i32_152 : BitVec 32 := 128#32
  let v555 : BitVec 32 := Scalar.muli c2_i32 c128_i32_152
  v555
def k0_mult22 : BitVec 32 :=
  let c2_i32 : BitVec 32 := 2#32
  let c128_i32_161 : BitVec 32 := 128#32
  let v584 : BitVec 32 := Scalar.muli c2_i32 c128_i32_161
  v584
def k0_mult23 : BitVec 32 :=
  let c2_i32 : BitVec 32 := 2#32
  let c128_i32_170 : BitVec 32 := 128#32
  let v613 : BitVec 32 := Scalar.muli c2_i32 c128_i32_170
  v613
def k0_mult24 : BitVec 32 :=
  let c2_i32 : BitVec 32 := 2#32
  let c128_i32_179 : BitVec 32 := 128#32
  let v642 : BitVec 32 := Scalar.muli c2_i32 c128_i32_179
  v642
def k0_mult25 : BitVec 32 :=
  let c2_i32 : BitVec 32 := 2#32
  let c128_i32_188 : BitVec 32 := 128#32
  let v671 : BitVec 32 := Scalar.muli c2_i32 c128_i32_188
  v671
def k0_mult26 : BitVec 32 :=
  let c2_i32 : BitVec 32 := 2#32
  let c128_i32_197 : BitVec 32 := 128#32
  let v700 : BitVec 32 := Scalar.muli c2_i32 c128_i32_197
  v700
def k0_mult27 : BitVec 32 :=
  let c2_i32 : BitVec 32 := 2#32
  let c128_i32_206 : BitVec 32 := 128#32
  let v729 : BitVec 32 := Scalar.muli c2_i32 c128_i32_206
  v729
def k0_mult28 : BitVec 32 :=
  let c3_i32 : BitVec 32 := 3#32
  let c128_i32_209 : BitVec 32 := 128#32
  let v737 : BitVec 32 := Scalar.muli c3_i32 c128_i32_209
  v737
def k0_mult29 : BitVec 32 :=
  let c3_i32 : BitVec 32 := 3#32
  let c128_i32_219 : BitVec 32 := 128#32
  let v770 : BitVec 32 := Scalar.muli c3_i32 c128_i32_219
  v770
def k0_mult30 : BitVec 32 :=
  let c3_i32 : BitVec 32 := 3#32
  let c128_i32_228 : BitVec 32 := 128#32
  let v799 : BitVec 32 := Scalar.muli c3_i32 c128_i32_228
  v799
def k0_mult31 : BitVec 32 :=
  let c3_i32 : BitVec 32 := 3#32
  let c128_i32_237 : BitVec 32 := 128#32
  let v828 : BitVec 32 := Scalar.muli c3_i32 c128_i32_237
  v828
def k0_mult32 : BitVec 32 :=
  let c3_i32 : BitVec 32 := 3#32
  let c128_i32_246 : BitVec 32 := 128#32
  let v857 : BitVec 32 := Scalar.muli c3_i32 c128_i32_246
  v857
def k0_mult33 : BitVec 32 :=
  let c3_i32 : BitVec 32 := 3#32
  let c128_i32_255 : BitVec 32 := 128#32
  let v886 : BitVec 32 := Scalar.muli c3_i32 c128_i32_255
  v886
def k0_mult34 : BitVec 32 :=
  let c3_i32 : BitVec 32 := 3#32
  let c128_i32_264 : BitVec 32 := 128#32
  let v915 : BitVec 32 := Scalar.muli c3_i32 c128_i32_264
  v915
def k0_mult35 : BitVec 32 :=
  let c3_i32 : BitVec 32 := 3#32
  let c128_i32_273 : BitVec 32 := 128#32
  let v944 : BitVec 32 := Scalar.muli c3_i32 c128_i32_273
  v944
def k0_mult36 : BitVec 32 :=
  let c3_i32 : BitVec 32 := 3#32
  let c128_i32_282 : BitVec 32 := 128#32
  let v973 : BitVec 32 := Scalar.muli c3_i32 c128_i32_282
  v973
def k0_mult37 : BitVec 32 :=
  let c4_i32_284 : BitVec 32 := 4#32
  let c128_i32_286 : BitVec 32 := 128#32
  let v981 : BitVec 32 := Scalar.muli c4_i32_284 c128_i32_286
  v981
def k0_mult38 : BitVec 32 :=
  let c4_i32_284 : BitVec 32 := 4#32
  let c128_i32_296 : BitVec 32 := 128#32
  let v1014 : BitVec 32 := Scalar.muli c4_i32_284 c128_i32_296
  v1014
def k0_mult39 : BitVec 32 :=
  let c4_i32_284 : BitVec 32 := 4#32
  let c128_i32_305 : BitVec 32 := 128#32
  let v1043 : BitVec 32 := Scalar.muli c4_i32_284 c128_i32_305
  v1043
def k0_mult40 : BitVec 32 :=
  let c4_i32_284 : BitVec 32 := 4#32
  let c128_i32_314 : BitVec 32 := 128#32
  let v1072 : BitVec 32 := Scalar.muli c4_i32_284 c128_i32_314
  v1072
def k0_mult41 : BitVec 32 :=
  let c4_i32_284 : BitVec 32 := 4#32
  let c128_i32_323 : BitVec 32 := 128#32
  let v1101 : BitVec 32 := Scalar.muli c4_i32_284 c128_i32_323
  v1101
def k0_mult42 : BitVec 32 :=
  let c4_i32_284 : BitVec 32 := 4#32
  let c128_i32_332 : BitVec 32 := 128#32
  let v1130 : BitVec 32 := Scalar.muli c4_i32_284 c128_i32_332
  v1130
def k0_mult43 : BitVec 32 :=
  let c4_i32_284 : BitVec 32 := 4#32
  let c128_i32_341 : BitVec 32 := 128#32
  let v1159 : BitVec 32 := Scalar.muli c4_i32_284 c128_i32_341
  v1159
def k0_mult44 : BitVec 32 :=
  let c4_i32_284 : BitVec 32 := 4#32
  let c128_i32_350 : BitVec 32 := 128#32
  let v1188 : BitVec 32 := Scalar.muli c4_i32_284 c128_i32_350
  v1188
def k0_mult45 : BitVec 32 :=
  let c4_i32_284 : BitVec 32 := 4#32
  let c128_i32_359 : BitVec 32 := 128#32
  let v1217 : BitVec 32 := Scalar.muli c4_i32_284 c128_i32_359
  v1217
def k0_mult46 : BitVec 32 :=
  let c5_i32 : BitVec 32 := 5#32
  let c128_i32_362 : BitVec 32 := 128#32
  let v1225 : BitVec 32 := Scalar.muli c5_i32 c128_i32_362
  v1225
def k0_mult47 : BitVec 32 :=
  let c5_i32 : BitVec 32 := 5#32
  let c128_i32_372 : BitVec 32 := 128#32
  let v1258 : BitVec 32 := Scalar.muli c5_i32 c128_i32_372
  v1258
def k0_mult48 : BitVec 32 :=
  let c5_i32 : BitVec 32 := 5#32
  let c128_i32_381 : BitVec 32 := 128#32
  let v1287 : BitVec 32 := Scalar.muli c5_i32 c128_i32_381
  v1287
def k0_mult49 : BitVec 32 :=
  let c5_i32 : BitVec 32 := 5#32
  let c128_i32_390 : BitVec 32 := 128#32
  let v1316 : BitVec 32 := Scalar.muli c5_i32 c128_i32_390
  v1316
def k0_mult50 : BitVec 32 :=
  let c5_i32 : BitVec 32 := 5#32
  let c128_i32_399 : BitVec 32 := 128#32
  let v1345 : BitVec 32 := Scalar.muli c5_i32 c128_i32_399
  v1345
def k0_mult51 : BitVec 32 :=
  let c5_i32 : BitVec 32 := 5#32
  let c128_i32_408 : BitVec 32 := 128#32
  let v1374 : BitVec 32 := Scalar.muli c5_i32 c128_i32_408
  v1374
def k0_mult52 : BitVec 32 :=
  let c5_i32 : BitVec 32 := 5#32
  let c128_i32_417 : BitVec 32 := 128#32
  let v1403 : BitVec 32 := Scalar.muli c5_i32 c128_i32_417
  v1403
def k0_mult53 : BitVec 32 :=
  let c5_i32 : BitVec 32 := 5#32
  let c128_i32_426 : BitVec 32 := 128#32
  let v1432 : BitVec 32 := Scalar.muli c5_i32 c128_i32_426
  v1432
def k0_mult54 : BitVec 32 :=
  let c5_i32 : BitVec 32 := 5#32
  let c128_i32_435 : BitVec 32 := 128#32
  let v1461 : BitVec 32 := Scalar.muli c5_i32 c128_i32_435
  v1461
def k0_mult55 : BitVec 32 :=
  let c6_i32 : BitVec 32 := 6#32
  let c128_i32_438 : BitVec 32 := 128#32
  let v1469 : BitVec 32 := Scalar.muli c6_i32 c128_i32_438
  v1469
def k0_mult56 : BitVec 32 :=
  let c6_i32 : BitVec 32 := 6#32
  let c128_i32_448 : BitVec 32 := 128#32
  let v1502 : BitVec 32 := Scalar.muli c6_i32 c128_i32_448
  v1502
def k0_mult57 : BitVec 32 :=
  let c6_i32 : BitVec 32 := 6#32
  let c128_i32_457 : BitVec 32 := 128#32
  let v1531 : BitVec 32 := Scalar.muli c6_i32 c128_i32_457
  v1531
def k0_mult58 : BitVec 32 :=
  let c6_i32 : BitVec 32 := 6#32
  let c128_i32_466 : BitVec 32 := 128#32
  let v1560 : BitVec 32 := Scalar.muli c6_i32 c128_i32_466
  v1560
def k0_mult59 : BitVec 32 :=
  let c6_i32 : BitVec 32 := 6#32
  let c128_i32_475 : BitVec 32 := 128#32
  let v1589 : BitVec 32 := Scalar.muli c6_i32 c128_i32_475
  v1589
def k0_mult60 : BitVec 32 :=
  let c6_i32 : BitVec 32 := 6#32
  let c128_i32_484 : BitVec 32 := 128#32
  let v1618 : BitVec 32 := Scalar.muli c6_i32 c128_i32_484
  v1618
def k0_mult61 : BitVec 32 :=
  let c6_i32 : BitVec 32 := 6#32
  let c128_i32_493 : BitVec 32 := 128#32
  let v1647 : BitVec 32 := Scalar.muli c6_i32 c128_i32_493
  v1647
def k0_mult62 : BitVec 32 :=
  let c6_i32 : BitVec 32 := 6#32
  let c128_i32_502 : BitVec 32 := 128#32
  let v1676 : BitVec 32 := Scalar.muli c6_i32 c128_i32_502
  v1676
def k0_mult63 : BitVec 32 :=
  let c6_i32 : BitVec 32 := 6#32
  let c128_i32_511 : BitVec 32 := 128#32
  let v1705 : BitVec 32 := Scalar.muli c6_i32 c128_i32_511
  v1705
def k0_mult64 : BitVec 32 :=
  let c7_i32 : BitVec 32 := 7#32
  let c128_i32_514 : BitVec 32 := 128#32
  let v1713 : BitVec 32 := Scalar.muli c7_i32 c128_i32_514
  v1713
def k0_mult65 : BitVec 32 :=
  let c7_i32 : BitVec 32 := 7#32
  let c128_i32_524 : BitVec 32 := 128#32
  let v1746 : BitVec 32 := Scalar.muli c7_i32 c128_i32_524
  v1746
def k0_mult66 : BitVec 32 :=
  let c7_i32 : BitVec 32 := 7#32
  let c128_i32_533 : BitVec 32 := 128#32
  let v1775 : BitVec 32 := Scalar.muli c7_i32 c128_i32_533
  v1775
def k0_mult67 : BitVec 32 :=
  let c7_i32 : BitVec 32 := 7#32
  let c128_i32_542 : BitVec 32 := 128#32
  let v1804 : BitVec 32 := Scalar.muli c7_i32 c128_i32_542
  v1804
def k0_mult68 : BitVec 32 :=
  let c7_i32 : BitVec 32 := 7#32
  let c128_i32_551 : BitVec 32 := 128#32
  let v1833 : BitVec 32 := Scalar.muli c7_i32 c128_i32_551
  v1833
def k0_mult69 : BitVec 32 :=
  let c7_i32 : BitVec 32 := 7#32
  let c128_i32_560 : BitVec 32 := 128#32
  let v1862 : BitVec 32 := Scalar.muli c7_i32 c128_i32_560
  v1862
def k0_mult70 : BitVec 32 :=
  let c7_i32 : BitVec 32 := 7#32
  let c128_i32_569 : BitVec 32 := 128#32
  let v1891 : BitVec 32 := Scalar.muli c7_i32 c128_i32_569
  v1891
def k0_mult71 : BitVec 32 :=
  let c7_i32 : BitVec 32 := 7#32
  let c128_i32_578 : BitVec 32 := 128#32
  let v1920 : BitVec 32 := Scalar.muli c7_i32 c128_i32_578
  v1920
def k0_mult72 : BitVec 32 :=
  let c7_i32 : BitVec 32 := 7#32
  let c128_i32_587 : BitVec 32 := 128#32
  let v1949 : BitVec 32 := Scalar.muli c7_i32 c128_i32_587
  v1949
def k0_mult73 (i : grid0.Coords) : BitVec 32 :=
  let arg1 : BitVec 32 := BitVec.ofNat 32 (i 1).val
  let c1024_i32 : BitVec 32 := 1024#32
  let v1955 : BitVec 32 := Scalar.muli arg1 c1024_i32
  v1955
def k0_off18 (i : grid0.Coords) : Fin 2 → Nat :=
  let c0_590 : Index := 0#32
  let arg1 : BitVec 32 := BitVec.ofNat 32 (i 1).val
  let c1024_i32 : BitVec 32 := 1024#32
  let v1955 : BitVec 32 := Scalar.muli arg1 c1024_i32
  let v1956 : BitVec 32 := v1955
  let v1957 : Index := Scalar.indexCast v1956
  ![0, v1957.toNat]
def k0_cond4 (i : grid0.Coords) : BitVec 1 :=
  let arg1 : BitVec 32 := BitVec.ofNat 32 (i 1).val
  let c7_i32_597 : BitVec 32 := 7#32
  let v1968 : BitVec 1 := Scalar.cmpi .eq arg1 c7_i32_597
  let v1969 : BitVec 32 := Scalar.extui v1968
  let c0_i32_598 : BitVec 32 := 0#32
  let v1970 : BitVec 1 := Scalar.cmpi .ne v1969 c0_i32_598
  v1970

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
abbrev S256x1x8192 : Shape := ⟨3, ![256, 1, 8192]⟩
abbrev S8192x2048 : Shape := ⟨2, ![8192, 2048]⟩
abbrev S64x2048 : Shape := ⟨2, ![64, 2048]⟩
abbrev S64x16384 : Shape := ⟨2, ![64, 16384]⟩
abbrev S256x8192 : Shape := ⟨2, ![256, 8192]⟩
abbrev S256x16384 : Shape := ⟨2, ![256, 16384]⟩
abbrev S1024x128 : Shape := ⟨2, ![1024, 128]⟩
abbrev S64x128 : Shape := ⟨2, ![64, 128]⟩
abbrev S64x1024 : Shape := ⟨2, ![64, 1024]⟩
abbrev S256x1024 : Shape := ⟨2, ![256, 1024]⟩
abbrev S8x64x128 : Shape := ⟨3, ![8, 64, 128]⟩
abbrev S8x64x2x128 : Shape := ⟨4, ![8, 64, 2, 128]⟩
abbrev S8x64x1x128 : Shape := ⟨4, ![8, 64, 1, 128]⟩
abbrev S1024x1024 : Shape := ⟨2, ![1024, 1024]⟩
abbrev S8x128 : Shape := ⟨2, ![8, 128]⟩
abbrev S1x8x128 : Shape := ⟨3, ![1, 8, 128]⟩
abbrev S16x128 : Shape := ⟨2, ![16, 128]⟩
abbrev S16x128x1 : Shape := ⟨3, ![16, 128, 1]⟩
abbrev S1x8x2x128 : Shape := ⟨4, ![1, 8, 2, 128]⟩
abbrev S1x8x1x128 : Shape := ⟨4, ![1, 8, 1, 128]⟩
abbrev S128x128 : Shape := ⟨2, ![128, 128]⟩
abbrev S1x1x128 : Shape := ⟨3, ![1, 1, 128]⟩
abbrev S1x128 : Shape := ⟨2, ![1, 128]⟩
abbrev S1x1x2x128 : Shape := ⟨4, ![1, 1, 2, 128]⟩
abbrev S1x1x1x128 : Shape := ⟨4, ![1, 1, 1, 128]⟩
abbrev S2x128 : Shape := ⟨2, ![2, 128]⟩
abbrev S1x2x128 : Shape := ⟨3, ![1, 2, 128]⟩
abbrev S64x2x128 : Shape := ⟨3, ![64, 2, 128]⟩
abbrev S256x1x16384 : Shape := ⟨3, ![256, 1, 16384]⟩

abbrev nBuf : Space → Nat
  | .hbm => 7
  | .vmem => 13
  | .smem => 0
  | _ => 0

abbrev bufTy : (tb : Table) → Fin (tcTables nBuf tb) → BufTy
  | .hbm, ⟨0, _⟩ => ⟨S256x1x8192, .bf16⟩
  | .hbm, ⟨1, _⟩ => ⟨S8192x2048, .i32⟩
  | .hbm, ⟨2, _⟩ => ⟨S64x2048, .i32⟩
  | .hbm, ⟨3, _⟩ => ⟨S64x16384, .bf16⟩
  | .hbm, ⟨4, _⟩ => ⟨S256x8192, .bf16⟩
  | .hbm, ⟨5, _⟩ => ⟨S256x16384, .bf16⟩
  | .hbm, ⟨6, _⟩ => ⟨S256x1x16384, .bf16⟩
  | .local _ .vmem, ⟨0, _⟩ => ⟨S256x8192, .bf16⟩
  | .local _ .vmem, ⟨1, _⟩ => ⟨S1024x128, .i32⟩
  | .local _ .vmem, ⟨2, _⟩ => ⟨S1024x128, .i32⟩
  | .local _ .vmem, ⟨3, _⟩ => ⟨S64x128, .i32⟩
  | .local _ .vmem, ⟨4, _⟩ => ⟨S64x128, .i32⟩
  | .local _ .vmem, ⟨5, _⟩ => ⟨S64x1024, .bf16⟩
  | .local _ .vmem, ⟨6, _⟩ => ⟨S64x1024, .bf16⟩
  | .local _ .vmem, ⟨7, _⟩ => ⟨S256x1024, .bf16⟩
  | .local _ .vmem, ⟨8, _⟩ => ⟨S256x1024, .bf16⟩
  | .local _ .vmem, ⟨9, _⟩ => ⟨S8x64x128, .i32⟩
  | .local _ .vmem, ⟨10, _⟩ => ⟨S8x64x2x128, .bf16⟩
  | .local _ .vmem, ⟨11, _⟩ => ⟨S1024x1024, .bf16⟩
  | .local _ .vmem, ⟨12, _⟩ => ⟨S256x1024, .f32⟩
  | _, _ => ⟨S256x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_mult1 : BitVec 32 :=
  let c0_i32_1 : BitVec 32 := 0#32
  let c128_i32 : BitVec 32 := 128#32
  let v5 : BitVec 32 := Scalar.muli c0_i32_1 c128_i32
  v5
def k0_off1 (c0_i32_1 : BitVec 32) : Fin 2 → Nat :=
  let c128_i32 : BitVec 32 := 128#32
  let v5 : BitVec 32 := Scalar.muli c0_i32_1 c128_i32
  let v6 : BitVec 32 := v5
  let v7 : Index := Scalar.indexCast v6
  let c0 : Index := 0#32
  ![v7.toNat, 0]
def k0_off2 (i : grid0.Coords) (c0_i32_1 : BitVec 32) : Fin 3 → Nat :=
  let c0_3 : Index := 0#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v22 : Index := Scalar.indexCast v4
  let c0_4 : Index := 0#32
  ![0, v22.toNat, 0]
def k0_off3 (i : grid0.Coords) (c0_i32_1 : BitVec 32) : Fin 4 → Nat :=
  let c0_5 : Index := 0#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v28 : Index := Scalar.indexCast v4
  let c0_6 : Index := 0#32
  ![0, v28.toNat, 0, 0]
def k0_mult2 : BitVec 32 :=
  let c0_i32_1 : BitVec 32 := 0#32
  let c128_i32_7 : BitVec 32 := 128#32
  let v38 : BitVec 32 := Scalar.muli c0_i32_1 c128_i32_7
  v38
def k0_off4 (c0_i32_1 : BitVec 32) : Fin 2 → Nat :=
  let c128_i32_7 : BitVec 32 := 128#32
  let v38 : BitVec 32 := Scalar.muli c0_i32_1 c128_i32_7
  let v39 : BitVec 32 := v38
  let v40 : Index := Scalar.indexCast v39
  let c0_8 : Index := 0#32
  ![v40.toNat, 0]
def k0_off5 (i : grid0.Coords) (c0_i32_1 : BitVec 32) : Fin 3 → Nat :=
  let c1 : Index := 1#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v51 : Index := Scalar.indexCast v4
  let c0_12 : Index := 0#32
  ![1, v51.toNat, 0]
def k0_off6 (i : grid0.Coords) (c0_i32_1 : BitVec 32) : Fin 4 → Nat :=
  let c1_13 : Index := 1#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v57 : Index := Scalar.indexCast v4
  let c0_14 : Index := 0#32
  ![1, v57.toNat, 0, 0]
def k0_mult3 : BitVec 32 :=
  let c0_i32_1 : BitVec 32 := 0#32
  let c128_i32_15 : BitVec 32 := 128#32
  let v67 : BitVec 32 := Scalar.muli c0_i32_1 c128_i32_15
  v67
def k0_off7 (c0_i32_1 : BitVec 32) : Fin 2 → Nat :=
  let c128_i32_15 : BitVec 32 := 128#32
  let v67 : BitVec 32 := Scalar.muli c0_i32_1 c128_i32_15
  let v68 : BitVec 32 := v67
  let v69 : Index := Scalar.indexCast v68
  let c128 : Index := 128#32
  ![v69.toNat, 128]
def k0_off8 (i : grid0.Coords) (c0_i32_1 : BitVec 32) : Fin 3 → Nat :=
  let c2 : Index := 2#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v80 : Index := Scalar.indexCast v4
  let c0_18 : Index := 0#32
  ![2, v80.toNat, 0]
def k0_off9 (i : grid0.Coords) (c0_i32_1 : BitVec 32) : Fin 4 → Nat :=
  let c2_19 : Index := 2#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v86 : Index := Scalar.indexCast v4
  let c0_20 : Index := 0#32
  ![2, v86.toNat, 0, 0]
def k0_mult4 : BitVec 32 :=
  let c0_i32_1 : BitVec 32 := 0#32
  let c128_i32_21 : BitVec 32 := 128#32
  let v96 : BitVec 32 := Scalar.muli c0_i32_1 c128_i32_21
  v96
def k0_off10 (c0_i32_1 : BitVec 32) : Fin 2 → Nat :=
  let c128_i32_21 : BitVec 32 := 128#32
  let v96 : BitVec 32 := Scalar.muli c0_i32_1 c128_i32_21
  let v97 : BitVec 32 := v96
  let v98 : Index := Scalar.indexCast v97
  let c256 : Index := 256#32
  ![v98.toNat, 256]
def k0_off11 (i : grid0.Coords) (c0_i32_1 : BitVec 32) : Fin 3 → Nat :=
  let c3 : Index := 3#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v109 : Index := Scalar.indexCast v4
  let c0_25 : Index := 0#32
  ![3, v109.toNat, 0]
def k0_off12 (i : grid0.Coords) (c0_i32_1 : BitVec 32) : Fin 4 → Nat :=
  let c3_26 : Index := 3#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v115 : Index := Scalar.indexCast v4
  let c0_27 : Index := 0#32
  ![3, v115.toNat, 0, 0]
def k0_mult5 : BitVec 32 :=
  let c0_i32_1 : BitVec 32 := 0#32
  let c128_i32_28 : BitVec 32 := 128#32
  let v125 : BitVec 32 := Scalar.muli c0_i32_1 c128_i32_28
  v125
def k0_off13 (c0_i32_1 : BitVec 32) : Fin 2 → Nat :=
  let c128_i32_28 : BitVec 32 := 128#32
  let v125 : BitVec 32 := Scalar.muli c0_i32_1 c128_i32_28
  let v126 : BitVec 32 := v125
  let v127 : Index := Scalar.indexCast v126
  let c384 : Index := 384#32
  ![v127.toNat, 384]
def k0_off14 (i : grid0.Coords) (c0_i32_1 : BitVec 32) : Fin 3 → Nat :=
  let c4 : Index := 4#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v138 : Index := Scalar.indexCast v4
  let c0_32 : Index := 0#32
  ![4, v138.toNat, 0]
def k0_off15 (i : grid0.Coords) (c0_i32_1 : BitVec 32) : Fin 4 → Nat :=
  let c4_33 : Index := 4#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v144 : Index := Scalar.indexCast v4
  let c0_34 : Index := 0#32
  ![4, v144.toNat, 0, 0]
def k0_mult6 : BitVec 32 :=
  let c0_i32_1 : BitVec 32 := 0#32
  let c128_i32_35 : BitVec 32 := 128#32
  let v154 : BitVec 32 := Scalar.muli c0_i32_1 c128_i32_35
  v154
def k0_off16 (c0_i32_1 : BitVec 32) : Fin 2 → Nat :=
  let c128_i32_35 : BitVec 32 := 128#32
  let v154 : BitVec 32 := Scalar.muli c0_i32_1 c128_i32_35
  let v155 : BitVec 32 := v154
  let v156 : Index := Scalar.indexCast v155
  let c512 : Index := 512#32
  ![v156.toNat, 512]
def k0_off17 (i : grid0.Coords) (c0_i32_1 : BitVec 32) : Fin 3 → Nat :=
  let c5 : Index := 5#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v167 : Index := Scalar.indexCast v4
  let c0_39 : Index := 0#32
  ![5, v167.toNat, 0]
def k0_off18 (i : grid0.Coords) (c0_i32_1 : BitVec 32) : Fin 4 → Nat :=
  let c5_40 : Index := 5#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v173 : Index := Scalar.indexCast v4
  let c0_41 : Index := 0#32
  ![5, v173.toNat, 0, 0]
def k0_mult7 : BitVec 32 :=
  let c0_i32_1 : BitVec 32 := 0#32
  let c128_i32_42 : BitVec 32 := 128#32
  let v183 : BitVec 32 := Scalar.muli c0_i32_1 c128_i32_42
  v183
def k0_off19 (c0_i32_1 : BitVec 32) : Fin 2 → Nat :=
  let c128_i32_42 : BitVec 32 := 128#32
  let v183 : BitVec 32 := Scalar.muli c0_i32_1 c128_i32_42
  let v184 : BitVec 32 := v183
  let v185 : Index := Scalar.indexCast v184
  let c640 : Index := 640#32
  ![v185.toNat, 640]
def k0_off20 (i : grid0.Coords) (c0_i32_1 : BitVec 32) : Fin 3 → Nat :=
  let c6 : Index := 6#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v196 : Index := Scalar.indexCast v4
  let c0_45 : Index := 0#32
  ![6, v196.toNat, 0]
def k0_off21 (i : grid0.Coords) (c0_i32_1 : BitVec 32) : Fin 4 → Nat :=
  let c6_46 : Index := 6#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v202 : Index := Scalar.indexCast v4
  let c0_47 : Index := 0#32
  ![6, v202.toNat, 0, 0]
def k0_mult8 : BitVec 32 :=
  let c0_i32_1 : BitVec 32 := 0#32
  let c128_i32_48 : BitVec 32 := 128#32
  let v212 : BitVec 32 := Scalar.muli c0_i32_1 c128_i32_48
  v212
def k0_off22 (c0_i32_1 : BitVec 32) : Fin 2 → Nat :=
  let c128_i32_48 : BitVec 32 := 128#32
  let v212 : BitVec 32 := Scalar.muli c0_i32_1 c128_i32_48
  let v213 : BitVec 32 := v212
  let v214 : Index := Scalar.indexCast v213
  let c768 : Index := 768#32
  ![v214.toNat, 768]
def k0_off23 (i : grid0.Coords) (c0_i32_1 : BitVec 32) : Fin 3 → Nat :=
  let c7 : Index := 7#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v225 : Index := Scalar.indexCast v4
  let c0_52 : Index := 0#32
  ![7, v225.toNat, 0]
def k0_off24 (i : grid0.Coords) (c0_i32_1 : BitVec 32) : Fin 4 → Nat :=
  let c7_53 : Index := 7#32
  let arg1 : BitVec 32 := BitVec.ofNat 32 (i 1).val
  let c8_i32 : BitVec 32 := 8#32
  let v3 : BitVec 32 := Scalar.muli arg1 c8_i32
  let v4 : BitVec 32 := Scalar.addi v3 c0_i32_1
  let v231 : Index := Scalar.indexCast v4
  let c0_54 : Index := 0#32
  ![7, v231.toNat, 0, 0]
def k0_mult9 : BitVec 32 :=
  let c0_i32_1 : BitVec 32 := 0#32
  let c128_i32_55 : BitVec 32 := 128#32
  let v241 : BitVec 32 := Scalar.muli c0_i32_1 c128_i32_55
  v241
def k0_off25 (c0_i32_1 : BitVec 32) : Fin 2 → Nat :=
  let c128_i32_55 : BitVec 32 := 128#32
  let v241 : BitVec 32 := Scalar.muli c0_i32_1 c128_i32_55
  let v242 : BitVec 32 := v241
  let v243 : Index := Scalar.indexCast v242
  let c896 : Index := 896#32
  ![v243.toNat, 896]
def k0_mult10 : BitVec 32 :=
  let c1_i32 : BitVec 32 := 1#32
  let c128_i32_57 : BitVec 32 := 128#32
  let v249 : BitVec 32 := Scalar.muli c1_i32 c128_i32_57
  v249
def k0_mult11 : BitVec 32 :=
  let c1_i32 : BitVec 32 := 1#32
  let c128_i32_67 : BitVec 32 := 128#32
  let v282 : BitVec 32 := Scalar.muli c1_i32 c128_i32_67
  v282
def k0_mult12 : BitVec 32 :=
  let c1_i32 : BitVec 32 := 1#32
  let c128_i32_76 : BitVec 32 := 128#32
  let v311 : BitVec 32 := Scalar.muli c1_i32 c128_i32_76
  v311
def k0_mult13 : BitVec 32 :=
  let c1_i32 : BitVec 32 := 1#32
  let c128_i32_85 : BitVec 32 := 128#32
  let v340 : BitVec 32 := Scalar.muli c1_i32 c128_i32_85
  v340
def k0_mult14 : BitVec 32 :=
  let c1_i32 : BitVec 32 := 1#32
  let c128_i32_94 : BitVec 32 := 128#32
  let v369 : BitVec 32 := Scalar.muli c1_i32 c128_i32_94
  v369
def k0_mult15 : BitVec 32 :=
  let c1_i32 : BitVec 32 := 1#32
  let c128_i32_103 : BitVec 32 := 128#32
  let v398 : BitVec 32 := Scalar.muli c1_i32 c128_i32_103
  v398
def k0_mult16 : BitVec 32 :=
  let c1_i32 : BitVec 32 := 1#32
  let c128_i32_112 : BitVec 32 := 128#32
  let v427 : BitVec 32 := Scalar.muli c1_i32 c128_i32_112
  v427
def k0_mult17 : BitVec 32 :=
  let c1_i32 : BitVec 32 := 1#32
  let c128_i32_121 : BitVec 32 := 128#32
  let v456 : BitVec 32 := Scalar.muli c1_i32 c128_i32_121
  v456
def k0_mult18 : BitVec 32 :=
  let c1_i32 : BitVec 32 := 1#32
  let c128_i32_130 : BitVec 32 := 128#32
  let v485 : BitVec 32 := Scalar.muli c1_i32 c128_i32_130
  v485
def k0_mult19 : BitVec 32 :=
  let c2_i32 : BitVec 32 := 2#32
  let c128_i32_133 : BitVec 32 := 128#32
  let v493 : BitVec 32 := Scalar.muli c2_i32 c128_i32_133
  v493
def k0_mult20 : BitVec 32 :=
  let c2_i32 : BitVec 32 := 2#32
  let c128_i32_143 : BitVec 32 := 128#32
  let v526 : BitVec 32 := Scalar.muli c2_i32 c128_i32_143
  v526
def k0_mult21 : BitVec 32 :=
  let c2_i32 : BitVec 32 := 2#32
  let c128_i32_152 : BitVec 32 := 128#32
  let v555 : BitVec 32 := Scalar.muli c2_i32 c128_i32_152
  v555
def k0_mult22 : BitVec 32 :=
  let c2_i32 : BitVec 32 := 2#32
  let c128_i32_161 : BitVec 32 := 128#32
  let v584 : BitVec 32 := Scalar.muli c2_i32 c128_i32_161
  v584
def k0_mult23 : BitVec 32 :=
  let c2_i32 : BitVec 32 := 2#32
  let c128_i32_170 : BitVec 32 := 128#32
  let v613 : BitVec 32 := Scalar.muli c2_i32 c128_i32_170
  v613
def k0_mult24 : BitVec 32 :=
  let c2_i32 : BitVec 32 := 2#32
  let c128_i32_179 : BitVec 32 := 128#32
  let v642 : BitVec 32 := Scalar.muli c2_i32 c128_i32_179
  v642
def k0_mult25 : BitVec 32 :=
  let c2_i32 : BitVec 32 := 2#32
  let c128_i32_188 : BitVec 32 := 128#32
  let v671 : BitVec 32 := Scalar.muli c2_i32 c128_i32_188
  v671
def k0_mult26 : BitVec 32 :=
  let c2_i32 : BitVec 32 := 2#32
  let c128_i32_197 : BitVec 32 := 128#32
  let v700 : BitVec 32 := Scalar.muli c2_i32 c128_i32_197
  v700
def k0_mult27 : BitVec 32 :=
  let c2_i32 : BitVec 32 := 2#32
  let c128_i32_206 : BitVec 32 := 128#32
  let v729 : BitVec 32 := Scalar.muli c2_i32 c128_i32_206
  v729
def k0_mult28 : BitVec 32 :=
  let c3_i32 : BitVec 32 := 3#32
  let c128_i32_209 : BitVec 32 := 128#32
  let v737 : BitVec 32 := Scalar.muli c3_i32 c128_i32_209
  v737
def k0_mult29 : BitVec 32 :=
  let c3_i32 : BitVec 32 := 3#32
  let c128_i32_219 : BitVec 32 := 128#32
  let v770 : BitVec 32 := Scalar.muli c3_i32 c128_i32_219
  v770
def k0_mult30 : BitVec 32 :=
  let c3_i32 : BitVec 32 := 3#32
  let c128_i32_228 : BitVec 32 := 128#32
  let v799 : BitVec 32 := Scalar.muli c3_i32 c128_i32_228
  v799
def k0_mult31 : BitVec 32 :=
  let c3_i32 : BitVec 32 := 3#32
  let c128_i32_237 : BitVec 32 := 128#32
  let v828 : BitVec 32 := Scalar.muli c3_i32 c128_i32_237
  v828
def k0_mult32 : BitVec 32 :=
  let c3_i32 : BitVec 32 := 3#32
  let c128_i32_246 : BitVec 32 := 128#32
  let v857 : BitVec 32 := Scalar.muli c3_i32 c128_i32_246
  v857
def k0_mult33 : BitVec 32 :=
  let c3_i32 : BitVec 32 := 3#32
  let c128_i32_255 : BitVec 32 := 128#32
  let v886 : BitVec 32 := Scalar.muli c3_i32 c128_i32_255
  v886
def k0_mult34 : BitVec 32 :=
  let c3_i32 : BitVec 32 := 3#32
  let c128_i32_264 : BitVec 32 := 128#32
  let v915 : BitVec 32 := Scalar.muli c3_i32 c128_i32_264
  v915
def k0_mult35 : BitVec 32 :=
  let c3_i32 : BitVec 32 := 3#32
  let c128_i32_273 : BitVec 32 := 128#32
  let v944 : BitVec 32 := Scalar.muli c3_i32 c128_i32_273
  v944
def k0_mult36 : BitVec 32 :=
  let c3_i32 : BitVec 32 := 3#32
  let c128_i32_282 : BitVec 32 := 128#32
  let v973 : BitVec 32 := Scalar.muli c3_i32 c128_i32_282
  v973
def k0_mult37 : BitVec 32 :=
  let c4_i32_284 : BitVec 32 := 4#32
  let c128_i32_286 : BitVec 32 := 128#32
  let v981 : BitVec 32 := Scalar.muli c4_i32_284 c128_i32_286
  v981
def k0_mult38 : BitVec 32 :=
  let c4_i32_284 : BitVec 32 := 4#32
  let c128_i32_296 : BitVec 32 := 128#32
  let v1014 : BitVec 32 := Scalar.muli c4_i32_284 c128_i32_296
  v1014
def k0_mult39 : BitVec 32 :=
  let c4_i32_284 : BitVec 32 := 4#32
  let c128_i32_305 : BitVec 32 := 128#32
  let v1043 : BitVec 32 := Scalar.muli c4_i32_284 c128_i32_305
  v1043
def k0_mult40 : BitVec 32 :=
  let c4_i32_284 : BitVec 32 := 4#32
  let c128_i32_314 : BitVec 32 := 128#32
  let v1072 : BitVec 32 := Scalar.muli c4_i32_284 c128_i32_314
  v1072
def k0_mult41 : BitVec 32 :=
  let c4_i32_284 : BitVec 32 := 4#32
  let c128_i32_323 : BitVec 32 := 128#32
  let v1101 : BitVec 32 := Scalar.muli c4_i32_284 c128_i32_323
  v1101
def k0_mult42 : BitVec 32 :=
  let c4_i32_284 : BitVec 32 := 4#32
  let c128_i32_332 : BitVec 32 := 128#32
  let v1130 : BitVec 32 := Scalar.muli c4_i32_284 c128_i32_332
  v1130
def k0_mult43 : BitVec 32 :=
  let c4_i32_284 : BitVec 32 := 4#32
  let c128_i32_341 : BitVec 32 := 128#32
  let v1159 : BitVec 32 := Scalar.muli c4_i32_284 c128_i32_341
  v1159
def k0_mult44 : BitVec 32 :=
  let c4_i32_284 : BitVec 32 := 4#32
  let c128_i32_350 : BitVec 32 := 128#32
  let v1188 : BitVec 32 := Scalar.muli c4_i32_284 c128_i32_350
  v1188
def k0_mult45 : BitVec 32 :=
  let c4_i32_284 : BitVec 32 := 4#32
  let c128_i32_359 : BitVec 32 := 128#32
  let v1217 : BitVec 32 := Scalar.muli c4_i32_284 c128_i32_359
  v1217
def k0_mult46 : BitVec 32 :=
  let c5_i32 : BitVec 32 := 5#32
  let c128_i32_362 : BitVec 32 := 128#32
  let v1225 : BitVec 32 := Scalar.muli c5_i32 c128_i32_362
  v1225
def k0_mult47 : BitVec 32 :=
  let c5_i32 : BitVec 32 := 5#32
  let c128_i32_372 : BitVec 32 := 128#32
  let v1258 : BitVec 32 := Scalar.muli c5_i32 c128_i32_372
  v1258
def k0_mult48 : BitVec 32 :=
  let c5_i32 : BitVec 32 := 5#32
  let c128_i32_381 : BitVec 32 := 128#32
  let v1287 : BitVec 32 := Scalar.muli c5_i32 c128_i32_381
  v1287
def k0_mult49 : BitVec 32 :=
  let c5_i32 : BitVec 32 := 5#32
  let c128_i32_390 : BitVec 32 := 128#32
  let v1316 : BitVec 32 := Scalar.muli c5_i32 c128_i32_390
  v1316
def k0_mult50 : BitVec 32 :=
  let c5_i32 : BitVec 32 := 5#32
  let c128_i32_399 : BitVec 32 := 128#32
  let v1345 : BitVec 32 := Scalar.muli c5_i32 c128_i32_399
  v1345
def k0_mult51 : BitVec 32 :=
  let c5_i32 : BitVec 32 := 5#32
  let c128_i32_408 : BitVec 32 := 128#32
  let v1374 : BitVec 32 := Scalar.muli c5_i32 c128_i32_408
  v1374
def k0_mult52 : BitVec 32 :=
  let c5_i32 : BitVec 32 := 5#32
  let c128_i32_417 : BitVec 32 := 128#32
  let v1403 : BitVec 32 := Scalar.muli c5_i32 c128_i32_417
  v1403
def k0_mult53 : BitVec 32 :=
  let c5_i32 : BitVec 32 := 5#32
  let c128_i32_426 : BitVec 32 := 128#32
  let v1432 : BitVec 32 := Scalar.muli c5_i32 c128_i32_426
  v1432
def k0_mult54 : BitVec 32 :=
  let c5_i32 : BitVec 32 := 5#32
  let c128_i32_435 : BitVec 32 := 128#32
  let v1461 : BitVec 32 := Scalar.muli c5_i32 c128_i32_435
  v1461
def k0_mult55 : BitVec 32 :=
  let c6_i32 : BitVec 32 := 6#32
  let c128_i32_438 : BitVec 32 := 128#32
  let v1469 : BitVec 32 := Scalar.muli c6_i32 c128_i32_438
  v1469
def k0_mult56 : BitVec 32 :=
  let c6_i32 : BitVec 32 := 6#32
  let c128_i32_448 : BitVec 32 := 128#32
  let v1502 : BitVec 32 := Scalar.muli c6_i32 c128_i32_448
  v1502
def k0_mult57 : BitVec 32 :=
  let c6_i32 : BitVec 32 := 6#32
  let c128_i32_457 : BitVec 32 := 128#32
  let v1531 : BitVec 32 := Scalar.muli c6_i32 c128_i32_457
  v1531
def k0_mult58 : BitVec 32 :=
  let c6_i32 : BitVec 32 := 6#32
  let c128_i32_466 : BitVec 32 := 128#32
  let v1560 : BitVec 32 := Scalar.muli c6_i32 c128_i32_466
  v1560
def k0_mult59 : BitVec 32 :=
  let c6_i32 : BitVec 32 := 6#32
  let c128_i32_475 : BitVec 32 := 128#32
  let v1589 : BitVec 32 := Scalar.muli c6_i32 c128_i32_475
  v1589
def k0_mult60 : BitVec 32 :=
  let c6_i32 : BitVec 32 := 6#32
  let c128_i32_484 : BitVec 32 := 128#32
  let v1618 : BitVec 32 := Scalar.muli c6_i32 c128_i32_484
  v1618
def k0_mult61 : BitVec 32 :=
  let c6_i32 : BitVec 32 := 6#32
  let c128_i32_493 : BitVec 32 := 128#32
  let v1647 : BitVec 32 := Scalar.muli c6_i32 c128_i32_493
  v1647
def k0_mult62 : BitVec 32 :=
  let c6_i32 : BitVec 32 := 6#32
  let c128_i32_502 : BitVec 32 := 128#32
  let v1676 : BitVec 32 := Scalar.muli c6_i32 c128_i32_502
  v1676
def k0_mult63 : BitVec 32 :=
  let c6_i32 : BitVec 32 := 6#32
  let c128_i32_511 : BitVec 32 := 128#32
  let v1705 : BitVec 32 := Scalar.muli c6_i32 c128_i32_511
  v1705
def k0_mult64 : BitVec 32 :=
  let c7_i32 : BitVec 32 := 7#32
  let c128_i32_514 : BitVec 32 := 128#32
  let v1713 : BitVec 32 := Scalar.muli c7_i32 c128_i32_514
  v1713
def k0_mult65 : BitVec 32 :=
  let c7_i32 : BitVec 32 := 7#32
  let c128_i32_524 : BitVec 32 := 128#32
  let v1746 : BitVec 32 := Scalar.muli c7_i32 c128_i32_524
  v1746
def k0_mult66 : BitVec 32 :=
  let c7_i32 : BitVec 32 := 7#32
  let c128_i32_533 : BitVec 32 := 128#32
  let v1775 : BitVec 32 := Scalar.muli c7_i32 c128_i32_533
  v1775
def k0_mult67 : BitVec 32 :=
  let c7_i32 : BitVec 32 := 7#32
  let c128_i32_542 : BitVec 32 := 128#32
  let v1804 : BitVec 32 := Scalar.muli c7_i32 c128_i32_542
  v1804
def k0_mult68 : BitVec 32 :=
  let c7_i32 : BitVec 32 := 7#32
  let c128_i32_551 : BitVec 32 := 128#32
  let v1833 : BitVec 32 := Scalar.muli c7_i32 c128_i32_551
  v1833
def k0_mult69 : BitVec 32 :=
  let c7_i32 : BitVec 32 := 7#32
  let c128_i32_560 : BitVec 32 := 128#32
  let v1862 : BitVec 32 := Scalar.muli c7_i32 c128_i32_560
  v1862
def k0_mult70 : BitVec 32 :=
  let c7_i32 : BitVec 32 := 7#32
  let c128_i32_569 : BitVec 32 := 128#32
  let v1891 : BitVec 32 := Scalar.muli c7_i32 c128_i32_569
  v1891
def k0_mult71 : BitVec 32 :=
  let c7_i32 : BitVec 32 := 7#32
  let c128_i32_578 : BitVec 32 := 128#32
  let v1920 : BitVec 32 := Scalar.muli c7_i32 c128_i32_578
  v1920
def k0_mult72 : BitVec 32 :=
  let c7_i32 : BitVec 32 := 7#32
  let c128_i32_587 : BitVec 32 := 128#32
  let v1949 : BitVec 32 := Scalar.muli c7_i32 c128_i32_587
  v1949
def k0_mult73 (i : grid0.Coords) : BitVec 32 :=
  let arg1 : BitVec 32 := BitVec.ofNat 32 (i 1).val
  let c1024_i32 : BitVec 32 := 1024#32
  let v1955 : BitVec 32 := Scalar.muli arg1 c1024_i32
  v1955
def k0_off26 (i : grid0.Coords) : Fin 2 → Nat :=
  let c0_590 : Index := 0#32
  let arg1 : BitVec 32 := BitVec.ofNat 32 (i 1).val
  let c1024_i32 : BitVec 32 := 1024#32
  let v1955 : BitVec 32 := Scalar.muli arg1 c1024_i32
  let v1956 : BitVec 32 := v1955
  let v1957 : Index := Scalar.indexCast v1956
  ![0, v1957.toNat]
def k0_cond4 (i : grid0.Coords) : BitVec 1 :=
  let arg1 : BitVec 32 := BitVec.ofNat 32 (i 1).val
  let c7_i32_597 : BitVec 32 := 7#32
  let v1968 : BitVec 1 := Scalar.cmpi .eq arg1 c7_i32_597
  let v1969 : BitVec 32 := Scalar.extui v1968
  let c0_i32_598 : BitVec 32 := 0#32
  let v1970 : BitVec 1 := Scalar.cmpi .ne v1969 c0_i32_598
  v1970

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S256x1x8192 : Shape := ⟨3, ![256, 1, 8192]⟩
abbrev S8192x2048 : Shape := ⟨2, ![8192, 2048]⟩
abbrev S64x2048 : Shape := ⟨2, ![64, 2048]⟩
abbrev S64x16384 : Shape := ⟨2, ![64, 16384]⟩
abbrev S64x2048x8 : Shape := ⟨3, ![64, 2048, 8]⟩
abbrev S_ : Shape := ⟨0, ![]⟩
abbrev S64x128x2048 : Shape := ⟨3, ![64, 128, 2048]⟩
abbrev S64x1x2048 : Shape := ⟨3, ![64, 1, 2048]⟩
abbrev S64x2048x1 : Shape := ⟨3, ![64, 2048, 1]⟩
abbrev S256x1x2048 : Shape := ⟨3, ![256, 1, 2048]⟩
abbrev S256x1x2048x1 : Shape := ⟨4, ![256, 1, 2048, 1]⟩
abbrev S256x1x2048x8 : Shape := ⟨4, ![256, 1, 2048, 8]⟩
abbrev S256x1x16384 : Shape := ⟨3, ![256, 1, 16384]⟩

abbrev nBuf : Space → Nat
  | .hbm => 216
  | .vmem => 0
  | .smem => 0
  | _ => 0

abbrev hbmTy0_0 (i : Nat) : BufTy := match i % 128 with
  | 0 => ⟨S256x1x8192, .bf16⟩
  | 1 => ⟨S8192x2048, .i32⟩
  | 2 => ⟨S64x2048, .i32⟩
  | 3 => ⟨S64x16384, .bf16⟩
  | 4 => ⟨S64x2048x8, .bf16⟩
  | 5 => ⟨S_, .i32⟩
  | 6 => ⟨S8192x2048, .i32⟩
  | 7 => ⟨S8192x2048, .i32⟩
  | 8 => ⟨S_, .i32⟩
  | 9 => ⟨S8192x2048, .i32⟩
  | 10 => ⟨S8192x2048, .i32⟩
  | 11 => ⟨S8192x2048, .bf16⟩
  | 12 => ⟨S64x128x2048, .bf16⟩
  | 13 => ⟨S_, .i32⟩
  | 14 => ⟨S64x2048, .i32⟩
  | 15 => ⟨S64x2048, .i32⟩
  | 16 => ⟨S_, .i32⟩
  | 17 => ⟨S64x2048, .i32⟩
  | 18 => ⟨S64x2048, .i32⟩
  | 19 => ⟨S64x2048, .bf16⟩
  | 20 => ⟨S64x1x2048, .bf16⟩
  | 21 => ⟨S64x2048x1, .bf16⟩
  | 22 => ⟨S64x2048, .bf16⟩
  | 23 => ⟨S64x1x2048, .bf16⟩
  | 24 => ⟨S64x128x2048, .bf16⟩
  | 25 => ⟨S64x128x2048, .bf16⟩
  | 26 => ⟨S64x128x2048, .bf16⟩
  | 27 => ⟨S64x128x2048, .bf16⟩
  | 28 => ⟨S8192x2048, .bf16⟩
  | 29 => ⟨S256x1x2048, .f32⟩
  | 30 => ⟨S_, .i32⟩
  | 31 => ⟨S8192x2048, .i32⟩
  | 32 => ⟨S8192x2048, .i32⟩
  | 33 => ⟨S_, .i32⟩
  | 34 => ⟨S8192x2048, .i32⟩
  | 35 => ⟨S8192x2048, .i32⟩
  | 36 => ⟨S8192x2048, .bf16⟩
  | 37 => ⟨S64x128x2048, .bf16⟩
  | 38 => ⟨S_, .i32⟩
  | 39 => ⟨S64x2048, .i32⟩
  | 40 => ⟨S64x2048, .i32⟩
  | 41 => ⟨S_, .i32⟩
  | 42 => ⟨S64x2048, .i32⟩
  | 43 => ⟨S64x2048, .i32⟩
  | 44 => ⟨S64x2048, .bf16⟩
  | 45 => ⟨S64x1x2048, .bf16⟩
  | 46 => ⟨S64x2048x1, .bf16⟩
  | 47 => ⟨S64x2048, .bf16⟩
  | 48 => ⟨S64x1x2048, .bf16⟩
  | 49 => ⟨S64x128x2048, .bf16⟩
  | 50 => ⟨S64x128x2048, .bf16⟩
  | 51 => ⟨S64x128x2048, .bf16⟩
  | 52 => ⟨S64x128x2048, .bf16⟩
  | 53 => ⟨S8192x2048, .bf16⟩
  | 54 => ⟨S256x1x2048, .f32⟩
  | 55 => ⟨S_, .i32⟩
  | 56 => ⟨S8192x2048, .i32⟩
  | 57 => ⟨S8192x2048, .i32⟩
  | 58 => ⟨S_, .i32⟩
  | 59 => ⟨S8192x2048, .i32⟩
  | 60 => ⟨S8192x2048, .i32⟩
  | 61 => ⟨S8192x2048, .bf16⟩
  | 62 => ⟨S64x128x2048, .bf16⟩
  | 63 => ⟨S_, .i32⟩
  | 64 => ⟨S64x2048, .i32⟩
  | 65 => ⟨S64x2048, .i32⟩
  | 66 => ⟨S_, .i32⟩
  | 67 => ⟨S64x2048, .i32⟩
  | 68 => ⟨S64x2048, .i32⟩
  | 69 => ⟨S64x2048, .bf16⟩
  | 70 => ⟨S64x1x2048, .bf16⟩
  | 71 => ⟨S64x2048x1, .bf16⟩
  | 72 => ⟨S64x2048, .bf16⟩
  | 73 => ⟨S64x1x2048, .bf16⟩
  | 74 => ⟨S64x128x2048, .bf16⟩
  | 75 => ⟨S64x128x2048, .bf16⟩
  | 76 => ⟨S64x128x2048, .bf16⟩
  | 77 => ⟨S64x128x2048, .bf16⟩
  | 78 => ⟨S8192x2048, .bf16⟩
  | 79 => ⟨S256x1x2048, .f32⟩
  | 80 => ⟨S_, .i32⟩
  | 81 => ⟨S8192x2048, .i32⟩
  | 82 => ⟨S8192x2048, .i32⟩
  | 83 => ⟨S_, .i32⟩
  | 84 => ⟨S8192x2048, .i32⟩
  | 85 => ⟨S8192x2048, .i32⟩
  | 86 => ⟨S8192x2048, .bf16⟩
  | 87 => ⟨S64x128x2048, .bf16⟩
  | 88 => ⟨S_, .i32⟩
  | 89 => ⟨S64x2048, .i32⟩
  | 90 => ⟨S64x2048, .i32⟩
  | 91 => ⟨S_, .i32⟩
  | 92 => ⟨S64x2048, .i32⟩
  | 93 => ⟨S64x2048, .i32⟩
  | 94 => ⟨S64x2048, .bf16⟩
  | 95 => ⟨S64x1x2048, .bf16⟩
  | 96 => ⟨S64x2048x1, .bf16⟩
  | 97 => ⟨S64x2048, .bf16⟩
  | 98 => ⟨S64x1x2048, .bf16⟩
  | 99 => ⟨S64x128x2048, .bf16⟩
  | 100 => ⟨S64x128x2048, .bf16⟩
  | 101 => ⟨S64x128x2048, .bf16⟩
  | 102 => ⟨S64x128x2048, .bf16⟩
  | 103 => ⟨S8192x2048, .bf16⟩
  | 104 => ⟨S256x1x2048, .f32⟩
  | 105 => ⟨S_, .i32⟩
  | 106 => ⟨S8192x2048, .i32⟩
  | 107 => ⟨S8192x2048, .i32⟩
  | 108 => ⟨S_, .i32⟩
  | 109 => ⟨S8192x2048, .i32⟩
  | 110 => ⟨S8192x2048, .i32⟩
  | 111 => ⟨S8192x2048, .bf16⟩
  | 112 => ⟨S64x128x2048, .bf16⟩
  | 113 => ⟨S_, .i32⟩
  | 114 => ⟨S64x2048, .i32⟩
  | 115 => ⟨S64x2048, .i32⟩
  | 116 => ⟨S_, .i32⟩
  | 117 => ⟨S64x2048, .i32⟩
  | 118 => ⟨S64x2048, .i32⟩
  | 119 => ⟨S64x2048, .bf16⟩
  | 120 => ⟨S64x1x2048, .bf16⟩
  | 121 => ⟨S64x2048x1, .bf16⟩
  | 122 => ⟨S64x2048, .bf16⟩
  | 123 => ⟨S64x1x2048, .bf16⟩
  | 124 => ⟨S64x128x2048, .bf16⟩
  | 125 => ⟨S64x128x2048, .bf16⟩
  | 126 => ⟨S64x128x2048, .bf16⟩
  | 127 => ⟨S64x128x2048, .bf16⟩
  | _ => ⟨S256x1x8192, .bf16⟩

abbrev hbmTy0_1 (i : Nat) : BufTy := match i % 128 with
  | 0 => ⟨S8192x2048, .bf16⟩
  | 1 => ⟨S256x1x2048, .f32⟩
  | 2 => ⟨S_, .i32⟩
  | 3 => ⟨S8192x2048, .i32⟩
  | 4 => ⟨S8192x2048, .i32⟩
  | 5 => ⟨S_, .i32⟩
  | 6 => ⟨S8192x2048, .i32⟩
  | 7 => ⟨S8192x2048, .i32⟩
  | 8 => ⟨S8192x2048, .bf16⟩
  | 9 => ⟨S64x128x2048, .bf16⟩
  | 10 => ⟨S_, .i32⟩
  | 11 => ⟨S64x2048, .i32⟩
  | 12 => ⟨S64x2048, .i32⟩
  | 13 => ⟨S_, .i32⟩
  | 14 => ⟨S64x2048, .i32⟩
  | 15 => ⟨S64x2048, .i32⟩
  | 16 => ⟨S64x2048, .bf16⟩
  | 17 => ⟨S64x1x2048, .bf16⟩
  | 18 => ⟨S64x2048x1, .bf16⟩
  | 19 => ⟨S64x2048, .bf16⟩
  | 20 => ⟨S64x1x2048, .bf16⟩
  | 21 => ⟨S64x128x2048, .bf16⟩
  | 22 => ⟨S64x128x2048, .bf16⟩
  | 23 => ⟨S64x128x2048, .bf16⟩
  | 24 => ⟨S64x128x2048, .bf16⟩
  | 25 => ⟨S8192x2048, .bf16⟩
  | 26 => ⟨S256x1x2048, .f32⟩
  | 27 => ⟨S_, .i32⟩
  | 28 => ⟨S8192x2048, .i32⟩
  | 29 => ⟨S8192x2048, .i32⟩
  | 30 => ⟨S_, .i32⟩
  | 31 => ⟨S8192x2048, .i32⟩
  | 32 => ⟨S8192x2048, .i32⟩
  | 33 => ⟨S8192x2048, .bf16⟩
  | 34 => ⟨S64x128x2048, .bf16⟩
  | 35 => ⟨S_, .i32⟩
  | 36 => ⟨S64x2048, .i32⟩
  | 37 => ⟨S64x2048, .i32⟩
  | 38 => ⟨S_, .i32⟩
  | 39 => ⟨S64x2048, .i32⟩
  | 40 => ⟨S64x2048, .i32⟩
  | 41 => ⟨S64x2048, .bf16⟩
  | 42 => ⟨S64x1x2048, .bf16⟩
  | 43 => ⟨S64x2048x1, .bf16⟩
  | 44 => ⟨S64x2048, .bf16⟩
  | 45 => ⟨S64x1x2048, .bf16⟩
  | 46 => ⟨S64x128x2048, .bf16⟩
  | 47 => ⟨S64x128x2048, .bf16⟩
  | 48 => ⟨S64x128x2048, .bf16⟩
  | 49 => ⟨S64x128x2048, .bf16⟩
  | 50 => ⟨S8192x2048, .bf16⟩
  | 51 => ⟨S256x1x2048, .f32⟩
  | 52 => ⟨S_, .i32⟩
  | 53 => ⟨S8192x2048, .i32⟩
  | 54 => ⟨S8192x2048, .i32⟩
  | 55 => ⟨S_, .i32⟩
  | 56 => ⟨S8192x2048, .i32⟩
  | 57 => ⟨S8192x2048, .i32⟩
  | 58 => ⟨S8192x2048, .bf16⟩
  | 59 => ⟨S64x128x2048, .bf16⟩
  | 60 => ⟨S_, .i32⟩
  | 61 => ⟨S64x2048, .i32⟩
  | 62 => ⟨S64x2048, .i32⟩
  | 63 => ⟨S_, .i32⟩
  | 64 => ⟨S64x2048, .i32⟩
  | 65 => ⟨S64x2048, .i32⟩
  | 66 => ⟨S64x2048, .bf16⟩
  | 67 => ⟨S64x1x2048, .bf16⟩
  | 68 => ⟨S64x2048x1, .bf16⟩
  | 69 => ⟨S64x2048, .bf16⟩
  | 70 => ⟨S64x1x2048, .bf16⟩
  | 71 => ⟨S64x128x2048, .bf16⟩
  | 72 => ⟨S64x128x2048, .bf16⟩
  | 73 => ⟨S64x128x2048, .bf16⟩
  | 74 => ⟨S64x128x2048, .bf16⟩
  | 75 => ⟨S8192x2048, .bf16⟩
  | 76 => ⟨S256x1x2048, .f32⟩
  | 77 => ⟨S256x1x2048x1, .f32⟩
  | 78 => ⟨S256x1x2048x1, .f32⟩
  | 79 => ⟨S256x1x2048x1, .f32⟩
  | 80 => ⟨S256x1x2048x1, .f32⟩
  | 81 => ⟨S256x1x2048x1, .f32⟩
  | 82 => ⟨S256x1x2048x1, .f32⟩
  | 83 => ⟨S256x1x2048x1, .f32⟩
  | 84 => ⟨S256x1x2048x1, .f32⟩
  | 85 => ⟨S256x1x2048x8, .f32⟩
  | 86 => ⟨S256x1x16384, .f32⟩
  | 87 => ⟨S256x1x16384, .bf16⟩
  | _ => ⟨S256x1x8192, .bf16⟩

abbrev hbmTy (i : Nat) : BufTy := match i / 128 with
  | 0 => hbmTy0_0 i
  | 1 => hbmTy0_1 i
  | _ => ⟨S256x1x8192, .bf16⟩

abbrev bufTy : (tb : Table) → Fin (tcTables nBuf tb) → BufTy
  | .hbm, ⟨i, _⟩ => hbmTy i
  | _, _ => ⟨S256x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_7 : Ref sig .tc := ⟨.hbm, 55, rfl⟩
abbrev main_v43 : Ref sig .tc := ⟨.hbm, 56, rfl⟩
abbrev main_v44 : Ref sig .tc := ⟨.hbm, 57, rfl⟩
abbrev main_c_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_9 : Ref sig .tc := ⟨.hbm, 63, rfl⟩
abbrev main_v49 : Ref sig .tc := ⟨.hbm, 64, rfl⟩
abbrev main_v50 : Ref sig .tc := ⟨.hbm, 65, rfl⟩
abbrev main_c_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_11 : Ref sig .tc := ⟨.hbm, 80, rfl⟩
abbrev main_v64 : Ref sig .tc := ⟨.hbm, 81, rfl⟩
abbrev main_v65 : Ref sig .tc := ⟨.hbm, 82, rfl⟩
abbrev main_c_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_c_13 : Ref sig .tc := ⟨.hbm, 88, rfl⟩
abbrev main_v70 : Ref sig .tc := ⟨.hbm, 89, rfl⟩
abbrev main_v71 : Ref sig .tc := ⟨.hbm, 90, rfl⟩
abbrev main_c_14 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_c_15 : Ref sig .tc := ⟨.hbm, 105, rfl⟩
abbrev main_v85 : Ref sig .tc := ⟨.hbm, 106, rfl⟩
abbrev main_v86 : Ref sig .tc := ⟨.hbm, 107, rfl⟩
abbrev main_c_16 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_c_17 : Ref sig .tc := ⟨.hbm, 113, rfl⟩
abbrev main_v91 : Ref sig .tc := ⟨.hbm, 114, rfl⟩
abbrev main_v92 : Ref sig .tc := ⟨.hbm, 115, rfl⟩
abbrev main_c_18 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_c_19 : Ref sig .tc := ⟨.hbm, 130, rfl⟩
abbrev main_v106 : Ref sig .tc := ⟨.hbm, 131, rfl⟩
abbrev main_v107 : Ref sig .tc := ⟨.hbm, 132, rfl⟩
abbrev main_c_20 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_c_21 : Ref sig .tc := ⟨.hbm, 138, rfl⟩
abbrev main_v112 : Ref sig .tc := ⟨.hbm, 139, rfl⟩
abbrev main_v113 : Ref sig .tc := ⟨.hbm, 140, rfl⟩
abbrev main_c_22 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_c_23 : Ref sig .tc := ⟨.hbm, 155, rfl⟩
abbrev main_v127 : Ref sig .tc := ⟨.hbm, 156, rfl⟩
abbrev main_v128 : Ref sig .tc := ⟨.hbm, 157, rfl⟩
abbrev main_c_24 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_c_25 : Ref sig .tc := ⟨.hbm, 163, rfl⟩
abbrev main_v133 : Ref sig .tc := ⟨.hbm, 164, rfl⟩
abbrev main_v134 : Ref sig .tc := ⟨.hbm, 165, rfl⟩
abbrev main_c_26 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_c_27 : Ref sig .tc := ⟨.hbm, 180, rfl⟩
abbrev main_v148 : Ref sig .tc := ⟨.hbm, 181, rfl⟩
abbrev main_v149 : Ref sig .tc := ⟨.hbm, 182, rfl⟩
abbrev main_c_28 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_c_29 : Ref sig .tc := ⟨.hbm, 188, rfl⟩
abbrev main_v154 : Ref sig .tc := ⟨.hbm, 189, rfl⟩
abbrev main_v155 : Ref sig .tc := ⟨.hbm, 190, rfl⟩
abbrev main_c_30 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩

abbrev nD : Nat := 1
abbrev τ : Topo := Topo.v7x

variable {F : FTy → Type} [FloatOps F]
-- ==== Proof.StridedCover.lean ====
module

public import Idealize.ShloMosaic.Lib.Exec

@[expose] public section

/-! A list of pieces covers a buffer when a split certificate (`LoadRect.Cov`) for the whole buffer's box checks: the
    form a cover by STRIDED pieces takes, each row of the buffer lying in one piece. -/

namespace Cert.Strided

open Idealize.ShloMosaic

/-- The box of the whole shape. -/
def wholeBox (s : Shape) : LoadRect s where
  off _ := 0
  size := s.size
  stride _ := 1
  inb a := by
    rcases Nat.eq_zero_or_pos (s.size a) with h | h
    · exact .inl h
    · refine .inr ?_; omega

/-- The whole box reads every coordinate at itself. -/
theorem wholeBox_idx (s : Shape) (y : s.Idx) : (wholeBox s).idx y = y := by
  funext a; apply Fin.ext; simp [LoadRect.idx, wholeBox]

/-- Pieces that a checked certificate shows to contain the whole box cover the buffer. -/
theorem cover_of_cov {s : Shape} {e : EltTy} {Val : EltTy → Type} (L : List (View.Piece Val s e)) (t : LoadRect.Cov)
    (h : LoadRect.covChk (L.map Sigma.fst) (wholeBox s) t = true) (y : s.Idx) : ∃ p ∈ L, y ∈ p.1.set := by
  have := LoadRect.cover_of_covChk L (wholeBox s) t h y
  rwa [wholeBox_idx] at this

/-- Halving along axis `a`, `2 ^ l` coordinates from `s` on, to single coordinates, each continued by `f`. -/
def halves (a : Nat) : (l s : Nat) → (Nat → LoadRect.Cov) → LoadRect.Cov
  | 0, s, f => f s
  | l + 1, s, f => .split a (2 ^ l) (halves a l s f) (halves a l (s + 2 ^ l) f)

/-- The certificate for the scale scratch: field `p`'s row `r` lies in the piece that stored the rows of `r`'s block of
    sixteen that have `r`'s parity; the pieces are listed last first. -/
def scaleCov : LoadRect.Cov :=
  halves 0 3 0 fun p => halves 1 6 0 fun r => .leaf (63 - (r / 16 * 16 + p * 2 + r % 2))

end Cert.Strided
-- ==== Proof.Kernel.Frame.Runs.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host line before the region allocates a buffer. -/
theorem hostOps0_fresh : (hostOps0 : List (HloOp τ sig (Elt F))).Forall fun op => op.fresh = ∅ := by
  simp only [List.Forall]; repeat' constructor
/-- No host line after the region allocates a buffer. -/
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v2}
/-- The lines after the region write only those buffers. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((hA c 1).trans (V_main_arg1 m c)),
      (Pipeline.RDat.FramePostR.arr_in h c 2 rfl).trans ((hA c 2).trans (V_main_arg2 m c)),
      (Pipeline.RDat.FramePostR.arr_in h c 3 rfl).trans ((hA c 3).trans (V_main_arg3 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

/-- The condition of the body's `scf.if` 2 (`k0_h3`), from the grid coordinates (the skeleton's scalar
    chain substituted). -/
abbrev cond0_2 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_2 : ∀ t : Fin cfg0.N, cond0_2 (grid0.coords t) ↔ 1 ≤ t.val % 8 :=
  (by decide +kernel : ∀ t : Fin grid0.N, cond0_2 (grid0.coords t) ↔ 1 ≤ t.val % 8)

/-- The condition of the body's `scf.if` 3 (`k0_h4`), from the grid coordinates (the skeleton's scalar
    chain substituted). -/
abbrev cond0_3 (i : grid0.Coords) : Prop := k0_cond4 i = 1#1
/-- It holds at the points ≡ 7 (mod 8) — by arithmetic of the point. -/
theorem hcond0_3 : ∀ t : Fin cfg0.N, cond0_3 (grid0.coords t) ↔ t.val % 8 = 7 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_3, k0_cond4, e0, e1]
    word_cmp
   : ∀ t : Fin grid0.N, cond0_3 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S8x64x128 .i32 := Memref.whole cc0_scratch0
abbrev scM0_1 : Memref sig .tc .vmem S8x64x128 .i32 := Memref.whole cc0_scratch1
abbrev scM0_2 : Memref sig .tc .vmem S1024x1024 .bf16 := Memref.whole cc0_scratch2
abbrev scM0_3 : Memref sig .tc .vmem S256x1024 .f32 := Memref.whole cc0_scratch3
/-- The scratch `arg7` the kernel carries between points, as a view: what it holds is stated through it. -/
abbrev VS0_0 : View sig .tc .vmem S8x64x128 .i32 := scM0_0.view
/-- The scratch `arg8` the kernel carries between points, as a view: what it holds is stated through it. -/
abbrev VS0_1 : View sig .tc .vmem S8x64x128 .i32 := scM0_1.view
/-- The scratch `arg10` the kernel carries between points, as a view: what it holds is stated through it. -/
abbrev VS0_3 : View sig .tc .vmem S256x1024 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.Kernel.Frame.RunA.lean ====
module

public import proofs.«01_k».proof.Proof.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5740000 in set_option sl_exec.stridedRows true in
/-- What the body's stores leave in each output's staging memref, as pieces (last first) IN CASE A (`scf.if` 0 taken, `scf.if` 1 taken, `scf.if` 2 not taken, `scf.if` 3 not taken: points 0, 8, … 120: 16 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4) at anything, handed back at some contents nothing names. -/
noncomputable def kernelRun0_A (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x128 .i32) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) :
    Σ' (LS0 : List (View.Piece (Elt F) S8x64x128 .i32)), Σ' (LS1 : List (View.Piece (Elt F) S8x64x128 .i32)), Σ' (LS3 : List (View.Piece (Elt F) S256x1024 .f32)), { LT2 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LT2) ∗ (∃ f, arg10.view.loc (c : Thread nD τ) ↦[arg10.view.set]{fullShare} arg10.view.writes (Elt F) f LS3)) -∗ K ⟨⟩))
          ⊢ wp frame (wpE (defs₀ (F := F)) Variants.none c none) E (cc0_awq_int4_linear i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_awq_int4_linear_eq_skeleton]; unfold cc0_awq_int4_linear_skel
    simp only [k0_part341_eq_skeleton, k0_part297_eq_skeleton, k0_part86_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [HS0]; · iexists _; iexact HS0
    isplitl [HS1]; · iexists _; iexact HS1
    isplitl [HS2]; · iexists _; iexact HS2
    iexists _; iexact HS3

end Cert.Kernel.Gen

end
-- ==== Proof.Kernel.Frame.RunB.lean ====
module

public import proofs.«01_k».proof.Proof.Kernel.Frame.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3240000 in set_option sl_exec.stridedRows true in
/-- What the body's stores leave in each output's staging memref, as pieces (last first) IN CASE B (`scf.if` 0 not taken, `scf.if` 1 not taken, `scf.if` 2 taken, `scf.if` 3 not taken: points 1, 2, … 126: 96 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4) at anything, handed back at some contents nothing names. -/
noncomputable def kernelRun0_B (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x128 .i32) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : ¬cond0_3 i)
    (x0 : Vec F S256x8192 .bf16) (x1 : Vec F S1024x128 .i32) (x2 : Vec F S64x128 .i32) (x3 : Vec F S64x1024 .bf16) (xs0 : Vec F S8x64x128 .i32) (xs1 : Vec F S8x64x128 .i32) (xs3 : Vec F S256x1024 .f32) :
    Σ' (LS0 : List (View.Piece (Elt F) S8x64x128 .i32)), Σ' (LS1 : List (View.Piece (Elt F) S8x64x128 .i32)), Σ' (LS3 : List (View.Piece (Elt F) S256x1024 .f32)), { LT2 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ (∃ d, owns (c : Thread nD τ) arg9 fullShare d) ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ (∃ f, arg9.view.loc (c : Thread nD τ) ↦[arg9.view.set]{fullShare} arg9.view.writes (Elt F) f LT2) ∗ (∃ f, arg10.view.loc (c : Thread nD τ) ↦[arg10.view.set]{fullShare} arg10.view.writes (Elt F) f LS3)) -∗ K ⟨⟩))
          ⊢ wp frame (wpE (defs₀ (F := F)) Variants.none c none) E (cc0_awq_int4_linear i arg2 harg2 arg3 harg3 arg4 harg4 arg5 harg5 arg6 harg6 arg7 harg7 arg8 harg8 arg9 harg9 arg10 harg10) K } := by
  refine ⟨[], [], ?_, ?_, fun E K => ?run⟩
  case run =>
    simp only [cc0_awq_int4_linear_eq_skeleton]; unfold cc0_awq_int4_linear_skel
    simp only [k0_part341_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg10.eq_unread hfs3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [HS0]
    · iexists _; isplitr; · ipureintro; exact harg7.read_unread _
      iexact HS0
    isplitl [HS1]
    · iexists _; isplitr; · ipureintro; exact harg8.read_unread _
      iexact HS1
    isplitl [HS2]; · iexists _; iexact HS2
    iexists _; iexact HS3

end Cert.Kernel.Gen

end
-- ==== Proof.Kernel.Frame.RunC.lean ====
module

public import proofs.«01_k».proof.Proof.Kernel.Frame.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6984000 in set_option sl_exec.stridedRows true in
/-- What the body's stores leave in each output's staging memref, as pieces (last first) IN CASE C (`scf.if` 0 not taken, `scf.if` 1 not taken, `scf.if` 2 taken, `scf.if` 3 taken: points 7, 15, … 127: 16 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4) at anything, handed back at some contents nothing names. -/
noncomputable def kernelRun0_C (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x128 .i32) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : cond0_3 i)
    (x0 : Vec F S256x8192 .bf16) (x1 : Vec F S1024x128 .i32) (x2 : Vec F S64x128 .i32) (x3 : Vec F S64x1024 .bf16) (xs0 : Vec F S8x64x128 .i32) (xs1 : Vec F S8x64x128 .i32) (xs3 : Vec F S256x1024 .f32) :
    Σ' (LS0 : List (View.Piece (Elt F) S8x64x128 .i32)), Σ' (LS1 : List (View.Piece (Elt F) S8x64x128 .i32)), Σ' (LS3 : List (View.Piece (Elt F) S256x1024 .f32)), { LT2 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ (∃ d, owns (c : Thread nD τ) arg9 fullShare d) ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ (∃ f, arg9.view.loc (c : Thread nD τ) ↦[arg9.view.set]{fullShare} arg9.view.writes (Elt F) f LT2) ∗ (∃ f, arg10.view.loc (c : Thread nD τ) ↦[arg10.view.set]{fullShare} arg10.view.writes (Elt F) f LS3)) -∗ K ⟨⟩))
          ⊢ wp frame (wpE (defs₀ (F := F)) Variants.none c none) E (cc0_awq_int4_linear i arg2 harg2 arg3 harg3 arg4 harg4 arg5 harg5 arg6 harg6 arg7 harg7 arg8 harg8 arg9 harg9 arg10 harg10) K } := by
  refine ⟨[], [], ?_, ?_, fun E K => ?run⟩
  case run =>
    simp only [cc0_awq_int4_linear_eq_skeleton]; unfold cc0_awq_int4_linear_skel
    simp only [k0_part341_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part293_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part294_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part295_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part296_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg10.eq_unread hfs3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [HS0]
    · iexists _; isplitr; · ipureintro; exact harg7.read_unread _
      iexact HS0
    isplitl [HS1]
    · iexists _; isplitr; · ipureintro; exact harg8.read_unread _
      iexact HS1
    isplitl [HS2]; · iexists _; iexact HS2
    iexists _; iexact HS3

end Cert.Kernel.Gen

end
-- ==== Proof.Kernel.Frame.lean ====
module

public import proofs.«01_k».proof.Proof.StridedCover
public import proofs.«01_k».proof.Proof.Kernel.Frame.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for scratch `arg7`, which the kernel carries between points, cover it: 64 pieces of `S1x8x128` tiling it (Lib/Ring.lean `Piece.tiledL`). -/
theorem scover0_A_0 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x128 .i32) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) (y : S8x64x128.Idx) :
    ∃ pc ∈ (kernelRun0_A c i arg2 harg2 arg3 harg3 arg4 harg4 arg5 harg5 arg6 harg6 arg7 harg7 arg8 harg8 arg9 harg9 arg10 harg10 hc0 hc1 hc2 hc3 x0 x1 x2 x3).1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 x0 x1 x2 x3).1 S1x8x128.size (by sl_kernel_rfl) y

/-- What case A leaves in scratch `arg7`: its pieces read back over junk. -/
def sout0_A_0 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x128 .i32) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) : Vec F S8x64x128 .i32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 hc2 hc3 x0 x1 x2 x3).1)

/-- Case A's pieces for scratch `arg8`, which the kernel carries between points, cover it: 64 strided pieces of `S1x8x128`, by the certificate of StridedCover.lean. -/
theorem scover0_A_1 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x128 .i32) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) (y : S8x64x128.Idx) :
    ∃ pc ∈ (kernelRun0_A c i arg2 harg2 arg3 harg3 arg4 harg4 arg5 harg5 arg6 harg6 arg7 harg7 arg8 harg8 arg9 harg9 arg10 harg10 hc0 hc1 hc2 hc3 x0 x1 x2 x3).2.1, y ∈ pc.1.set :=
  Cert.Strided.cover_of_cov (kernelRun0_A c i arg2 harg2 arg3 harg3 arg4 harg4 arg5 harg5 arg6 harg6 arg7 harg7 arg8 harg8 arg9 harg9 arg10 harg10 hc0 hc1 hc2 hc3 x0 x1 x2 x3).2.1 Cert.Strided.scaleCov (by sl_kernel_rfl) y

/-- What case A leaves in scratch `arg8`: its pieces read back over junk. -/
def sout0_A_1 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x128 .i32) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) : Vec F S8x64x128 .i32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 hc2 hc3 x0 x1 x2 x3).2.1)

/-- Case A's pieces for scratch `arg10`, which the kernel carries between points, cover it: 1 piece of `S256x1024` tiling it (Lib/Ring.lean `Piece.tiledL`). -/
theorem scover0_A_3 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x128 .i32) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) (y : S256x1024.Idx) :
    ∃ pc ∈ (kernelRun0_A c i arg2 harg2 arg3 harg3 arg4 harg4 arg5 harg5 arg6 harg6 arg7 harg7 arg8 harg8 arg9 harg9 arg10 harg10 hc0 hc1 hc2 hc3 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 x0 x1 x2 x3).2.2.1 S256x1024.size (by sl_kernel_rfl) y

/-- What case A leaves in scratch `arg10`: its pieces read back over junk. -/
def sout0_A_3 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x128 .i32) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) : Vec F S256x1024 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 hc0 hc1 hc2 hc3 x0 x1 x2 x3).2.2.1)

/-- Case B stores nothing into scratch `arg7`: it holds what the point before left. -/
def sout0_B_0 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x128 .i32) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : ¬cond0_3 i)
    (x0 : Vec F S256x8192 .bf16) (x1 : Vec F S1024x128 .i32) (x2 : Vec F S64x128 .i32) (x3 : Vec F S64x1024 .bf16) (xs0 : Vec F S8x64x128 .i32) (xs1 : Vec F S8x64x128 .i32) (xs3 : Vec F S256x1024 .f32) : Vec F S8x64x128 .i32 := xs0

/-- Case B stores nothing into scratch `arg8`: it holds what the point before left. -/
def sout0_B_1 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x128 .i32) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : ¬cond0_3 i)
    (x0 : Vec F S256x8192 .bf16) (x1 : Vec F S1024x128 .i32) (x2 : Vec F S64x128 .i32) (x3 : Vec F S64x1024 .bf16) (xs0 : Vec F S8x64x128 .i32) (xs1 : Vec F S8x64x128 .i32) (xs3 : Vec F S256x1024 .f32) : Vec F S8x64x128 .i32 := xs1

/-- Case B's pieces for scratch `arg10`, which the kernel carries between points, cover it: 1 piece of `S256x1024` tiling it (Lib/Ring.lean `Piece.tiledL`). -/
theorem scover0_B_3 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x128 .i32) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : ¬cond0_3 i)
    (x0 : Vec F S256x8192 .bf16) (x1 : Vec F S1024x128 .i32) (x2 : Vec F S64x128 .i32) (x3 : Vec F S64x1024 .bf16) (xs0 : Vec F S8x64x128 .i32) (xs1 : Vec F S8x64x128 .i32) (xs3 : Vec F S256x1024 .f32) (y : S256x1024.Idx) :
    ∃ pc ∈ (kernelRun0_B c i arg2 harg2 arg3 harg3 arg4 harg4 arg5 harg5 arg6 harg6 arg7 harg7 arg8 harg8 arg9 harg9 arg10 harg10 hc0 hc1 hc2 hc3 x0 x1 x2 x3 xs0 xs1 xs3).2.2.1, y ∈ pc.1.set :=
  View.cover_of_tiledL (kernelRun0_B c i arg2 harg2 arg3 harg3 arg4 harg4 arg5 harg5 arg6 harg6 arg7 harg7 arg8 harg8 arg9 harg9 arg10 harg10 hc0 hc1 hc2 hc3 x0 x1 x2 x3 xs0 xs1 xs3).2.2.1 S256x1024.size (by sl_kernel_rfl) y

/-- What case B leaves in scratch `arg10`: its pieces read back over junk. -/
def sout0_B_3 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x128 .i32) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : ¬cond0_3 i)
    (x0 : Vec F S256x8192 .bf16) (x1 : Vec F S1024x128 .i32) (x2 : Vec F S64x128 .i32) (x3 : Vec F S64x1024 .bf16) (xs0 : Vec F S8x64x128 .i32) (xs1 : Vec F S8x64x128 .i32) (xs3 : Vec F S256x1024 .f32) : Vec F S256x1024 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 hc0 hc1 hc2 hc3 x0 x1 x2 x3 xs0 xs1 xs3).2.2.1)

/-- Case C stores nothing into scratch `arg7`: it holds what the point before left. -/
def sout0_C_0 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x128 .i32) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : cond0_3 i)
    (x0 : Vec F S256x8192 .bf16) (x1 : Vec F S1024x128 .i32) (x2 : Vec F S64x128 .i32) (x3 : Vec F S64x1024 .bf16) (xs0 : Vec F S8x64x128 .i32) (xs1 : Vec F S8x64x128 .i32) (xs3 : Vec F S256x1024 .f32) : Vec F S8x64x128 .i32 := xs0

/-- Case C stores nothing into scratch `arg8`: it holds what the point before left. -/
def sout0_C_1 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x128 .i32) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : cond0_3 i)
    (x0 : Vec F S256x8192 .bf16) (x1 : Vec F S1024x128 .i32) (x2 : Vec F S64x128 .i32) (x3 : Vec F S64x1024 .bf16) (xs0 : Vec F S8x64x128 .i32) (xs1 : Vec F S8x64x128 .i32) (xs3 : Vec F S256x1024 .f32) : Vec F S8x64x128 .i32 := xs1

/-- Case C's pieces for scratch `arg10`, which the kernel carries between points, cover it: 1 piece of `S256x1024` tiling it (Lib/Ring.lean `Piece.tiledL`). -/
theorem scover0_C_3 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x128 .i32) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : cond0_3 i)
    (x0 : Vec F S256x8192 .bf16) (x1 : Vec F S1024x128 .i32) (x2 : Vec F S64x128 .i32) (x3 : Vec F S64x1024 .bf16) (xs0 : Vec F S8x64x128 .i32) (xs1 : Vec F S8x64x128 .i32) (xs3 : Vec F S256x1024 .f32) (y : S256x1024.Idx) :
    ∃ pc ∈ (kernelRun0_C c i arg2 harg2 arg3 harg3 arg4 harg4 arg5 harg5 arg6 harg6 arg7 harg7 arg8 harg8 arg9 harg9 arg10 harg10 hc0 hc1 hc2 hc3 x0 x1 x2 x3 xs0 xs1 xs3).2.2.1, y ∈ pc.1.set :=
  View.cover_of_tiledL (kernelRun0_C c i arg2 harg2 arg3 harg3 arg4 harg4 arg5 harg5 arg6 harg6 arg7 harg7 arg8 harg8 arg9 harg9 arg10 harg10 hc0 hc1 hc2 hc3 x0 x1 x2 x3 xs0 xs1 xs3).2.2.1 S256x1024.size (by sl_kernel_rfl) y

/-- What case C leaves in scratch `arg10`: its pieces read back over junk. -/
def sout0_C_3 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x128 .i32) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : cond0_3 i)
    (x0 : Vec F S256x8192 .bf16) (x1 : Vec F S1024x128 .i32) (x2 : Vec F S64x128 .i32) (x3 : Vec F S64x1024 .bf16) (xs0 : Vec F S8x64x128 .i32) (xs1 : Vec F S8x64x128 .i32) (xs3 : Vec F S256x1024 .f32) : Vec F S256x1024 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 hc0 hc1 hc2 hc3 x0 x1 x2 x3 xs0 xs1 xs3).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x64x128 .i32 × Vec F S8x64x128 .i32 × Vec F S256x1024 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 0 then
        if h2 : 1 ≤ (n + 1) % 8 then
          False.elim (by have hN : n + 1 < 128 := lt_of_lt_of_eq hn (show cfg0.N = 128 from N_0); omega)
        else
          if h3 : (n + 1) % 8 = 7 then
            False.elim (by have hN : n + 1 < 128 := lt_of_lt_of_eq hn (show cfg0.N = 128 from N_0); omega)
          else
            (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩))
      else
        False.elim (by have hN : n + 1 < 128 := lt_of_lt_of_eq hn (show cfg0.N = 128 from N_0); omega)
    else
      if h1 : (n + 1) % 8 = 0 then
        False.elim (by have hN : n + 1 < 128 := lt_of_lt_of_eq hn (show cfg0.N = 128 from N_0); omega)
      else
        if h2 : 1 ≤ (n + 1) % 8 then
          if h3 : (n + 1) % 8 = 7 then
            (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2)
          else
            (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2)
        else
          False.elim (by have hN : n + 1 < 128 := lt_of_lt_of_eq hn (show cfg0.N = 128 from N_0); omega)

/-- `outsAt0` at a point of case A: that case's contents. -/
theorem outsAt0_A (c : Dev nD) (t : Fin cfg0.N) (h0 : t.val % 8 = 0) (h1 : t.val % 8 = 0) (h2 : ¬1 ≤ t.val % 8) (h3 : ¬t.val % 8 = 7) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t), sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t)) := by
  obtain ⟨n, hn⟩ := t
  cases n with
  | zero => exact rfl
  | succ n => exact (dif_pos h0).trans ((dif_pos h1).trans ((dif_neg h2).trans ((dif_neg h3).trans rfl)))

/-- `outsAt0` at a point of case B: that case's contents, over what the point before left. -/
theorem outsAt0_B (c : Dev nD) (t : Fin cfg0.N) (h0 : ¬t.val % 8 = 0) (h1 : ¬t.val % 8 = 0) (h2 : 1 ≤ t.val % 8) (h3 : ¬t.val % 8 = 7) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case C: that case's contents, over what the point before left. -/
theorem outsAt0_C (c : Dev nD) (t : Fin cfg0.N) (h0 : ¬t.val % 8 = 0) (h1 : ¬t.val % 8 = 0) (h2 : 1 ≤ t.val % 8) (h3 : t.val % 8 = 7) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ (∃ d, owns (c : Thread nD τ) scM0_2 fullShare d) ∗ owns (c : Thread nD τ) scM0_3 fullShare ((outsAt0 m c n hn).2.2)) ∗ (∃ r, prngReg c r))

/-- Before the first point the invariant is the class's own. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ (∃ d, owns (c : Thread nD τ) scM0_2 fullShare d) ∗ owns (c : Thread nD τ) scM0_3 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ (∃ d, owns (c : Thread nD τ) scM0_2 fullShare d) ∗ owns (c : Thread nD τ) scM0_3 fullShare ((outsAt0 m c (n - 1) (by omega)).2.2)) ∗ (∃ r, prngReg c r)) := by
  cases n with
  | zero => exact absurd rfl hz
  | succ n => rfl

/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Input 1's current staging buffer holds its block at every point. -/
theorem before0_1 (c : Dev nD) (t : Fin cfg0.N) (d) : (dats m 0 c).before 1 t d = iblk m c 1 t :=
  before0_1_of m (dats m 0 c) (A_eq m c 1) (after0_1 m c) t d
/-- Input 2's current staging buffer holds its block at every point. -/
theorem before0_2 (c : Dev nD) (t : Fin cfg0.N) (d) : (dats m 0 c).before 2 t d = iblk m c 2 t :=
  before0_2_of m (dats m 0 c) (A_eq m c 2) (after0_2 m c) t d
/-- Input 3's current staging buffer holds its block at every point. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · by_cases h1 : t.val % 8 = 0
    · by_cases h2 : 1 ≤ t.val % 8
      · exfalso; omega
      · by_cases h3 : t.val % 8 = 7
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          by_cases hz : t.val = 0
          · rw [PhiS_castSucc m c t, PhiS_zero m c _ _ hz, PhiA0_eq]
            rw [outsAt0_A m c t h0 h1 h2 h3]
            unfold sout0_A_0 sout0_A_1 sout0_A_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩⟩
            iapply ((kernelRun0_A c (grid0.coords t) _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t)).2.2.2.2 Set.univ _)
            isplitl [H0]; · iexact H0
            isplitl [H1]; · iexact H1
            isplitl [H2]; · iexact H2
            isplitl [H3]; · iexact H3
            isplitl [H4]; · iexists _; iexact H4
            isplitl [HS0]; · iexact HS0
            isplitl [HS1]; · iexact HS1
            isplitl [HS2]; · iexact HS2
            isplitl [HS3]; · iexact HS3
            iintro ⟨H0, H1, H2, H3, H4, ⟨%es0, HS0⟩, ⟨%es1, HS1⟩, ⟨%fT2, HS2⟩, ⟨%es3, HS3⟩⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _)
                isplitl [HS2]
                · iexists _; unfold owns; iexists _; isplitr
                  swap; · iexact HS2
                  ipureintro; rfl
                unfold owns; iexists _; isplitr
                swap; · iexact HS3
                ipureintro; exact View.read_writes_of_cover _ _ _ _ _ (scover0_A_3 c _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            iexact H4
          · rw [PhiS_castSucc m c t, PhiS_pos m c _ _ hz]
            rw [outsAt0_A m c t h0 h1 h2 h3]
            unfold sout0_A_0 sout0_A_1 sout0_A_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩⟩
            iapply ((kernelRun0_A c (grid0.coords t) _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t)).2.2.2.2 Set.univ _)
            isplitl [H0]; · iexact H0
            isplitl [H1]; · iexact H1
            isplitl [H2]; · iexact H2
            isplitl [H3]; · iexact H3
            isplitl [H4]; · iexists _; iexact H4
            isplitl [HS0]; · iexists _; iexact HS0
            isplitl [HS1]; · iexists _; iexact HS1
            isplitl [HS2]; · iexact HS2
            isplitl [HS3]; · iexists _; iexact HS3
            iintro ⟨H0, H1, H2, H3, H4, ⟨%es0, HS0⟩, ⟨%es1, HS1⟩, ⟨%fT2, HS2⟩, ⟨%es3, HS3⟩⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _)
                isplitl [HS2]
                · iexists _; unfold owns; iexists _; isplitr
                  swap; · iexact HS2
                  ipureintro; rfl
                unfold owns; iexists _; isplitr
                swap; · iexact HS3
                ipureintro; exact View.read_writes_of_cover _ _ _ _ _ (scover0_A_3 c _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            iexact H4
    · exfalso; omega
  · by_cases h1 : t.val % 8 = 0
    · exfalso; omega
    · by_cases h2 : 1 ≤ t.val % 8
      · by_cases h3 : t.val % 8 = 7
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          by_cases hz : t.val = 0
          · exfalso; have hN : t.val < 128 := lt_of_lt_of_eq t.isLt (show cfg0.N = 128 from N_0); omega
          · rw [PhiS_castSucc m c t, PhiS_pos m c _ _ hz]
            rw [outsAt0_C m c t h0 h1 h2 h3]
            unfold sout0_C_0 sout0_C_1 sout0_C_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩⟩
            iapply ((kernelRun0_C c (grid0.coords t) _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) _ _ _).2.2.2.2 Set.univ _)
            isplitl [H0]; · iexact H0
            isplitl [H1]; · iexact H1
            isplitl [H2]; · iexact H2
            isplitl [H3]; · iexact H3
            isplitl [H4]; · iexists _; iexact H4
            isplitl [HS0]; · iexact HS0
            isplitl [HS1]; · iexact HS1
            isplitl [HS2]; · iexact HS2
            isplitl [HS3]; · iexact HS3
            iintro ⟨H0, H1, H2, H3, H4, HS0, HS1, ⟨%fT2, HS2⟩, ⟨%es3, HS3⟩⟩
            isplitl [HS0 HS1 HS2 HS3 Hg]
            · isplitl [HS0 HS1 HS2 HS3]
              · isplitl [HS0]
                · iexact HS0
                isplitl [HS1]
                · iexact HS1
                isplitl [HS2]
                · iexists _; unfold owns; iexists _; isplitr
                  swap; · iexact HS2
                  ipureintro; rfl
                unfold owns; iexists _; isplitr
                swap; · iexact HS3
                ipureintro; exact View.read_writes_of_cover _ _ _ _ _ (scover0_C_3 c _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            iexact H4
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          by_cases hz : t.val = 0
          · exfalso; have hN : t.val < 128 := lt_of_lt_of_eq t.isLt (show cfg0.N = 128 from N_0); omega
          · rw [PhiS_castSucc m c t, PhiS_pos m c _ _ hz]
            rw [outsAt0_B m c t h0 h1 h2 h3]
            unfold sout0_B_0 sout0_B_1 sout0_B_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩⟩
            iapply ((kernelRun0_B c (grid0.coords t) _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) _ _ _).2.2.2.2 Set.univ _)
            isplitl [H0]; · iexact H0
            isplitl [H1]; · iexact H1
            isplitl [H2]; · iexact H2
            isplitl [H3]; · iexact H3
            isplitl [H4]; · iexists _; iexact H4
            isplitl [HS0]; · iexact HS0
            isplitl [HS1]; · iexact HS1
            isplitl [HS2]; · iexact HS2
            isplitl [HS3]; · iexact HS3
            iintro ⟨H0, H1, H2, H3, H4, HS0, HS1, ⟨%fT2, HS2⟩, ⟨%es3, HS3⟩⟩
            isplitl [HS0 HS1 HS2 HS3 Hg]
            · isplitl [HS0 HS1 HS2 HS3]
              · isplitl [HS0]
                · iexact HS0
                isplitl [HS1]
                · iexact HS1
                isplitl [HS2]
                · iexists _; unfold owns; iexists _; isplitr
                  swap; · iexact HS2
                  ipureintro; rfl
                unfold owns; iexists _; isplitr
                swap; · iexact HS3
                ipureintro; exact View.read_writes_of_cover _ _ _ _ _ (scover0_B_3 c _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            iexact H4
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 4) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.KernelIdeal.Frame.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host line before the region allocates a buffer. -/
theorem hostOps0_fresh : (hostOps0 : List (HloOp τ sig (Elt F))).Forall fun op => op.fresh = ∅ := by
  simp only [List.Forall]; repeat' constructor
/-- No host line after the region allocates a buffer. -/
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0 m dats c)),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

/-- The condition of the body's `scf.if` 2 (`k0_h3`), from the grid coordinates (the skeleton's scalar
    chain substituted). -/
abbrev cond0_2 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_2 : ∀ t : Fin cfg0.N, cond0_2 (grid0.coords t) ↔ 1 ≤ t.val % 8 :=
  (by decide +kernel : ∀ t : Fin grid0.N, cond0_2 (grid0.coords t) ↔ 1 ≤ t.val % 8)

/-- The condition of the body's `scf.if` 3 (`k0_h4`), from the grid coordinates (the skeleton's scalar
    chain substituted). -/
abbrev cond0_3 (i : grid0.Coords) : Prop := k0_cond4 i = 1#1
/-- It holds at the points ≡ 7 (mod 8) — by arithmetic of the point. -/
theorem hcond0_3 : ∀ t : Fin cfg0.N, cond0_3 (grid0.coords t) ↔ t.val % 8 = 7 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [cond0_3, k0_cond4, e0, e1]
    word_cmp
   : ∀ t : Fin grid0.N, cond0_3 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ ¬cond0_1 i ∧ cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ cond0_2 i ∧ cond0_3 i
instance conds0_C.dec (i : grid0.Coords) : Decidable (conds0_C i) :=
  @instDecidableAnd _ _ inferInstance (@instDecidableAnd _ _ inferInstance (@instDecidableAnd _ _ inferInstance inferInstance))
/-- At the points of case A the printed configuration (`Cfg.idle`) calls output 4 idle: the case stores nothing into it. -/
theorem idleAt0_4_A : ∀ t : Fin cfg0.N, cond0_0 (grid0.coords t) → cond0_1 (grid0.coords t) → ¬cond0_2 (grid0.coords t) → ¬cond0_3 (grid0.coords t) → cfg0.idle 4 (grid0.coords t) = true :=
  fun t h0 h1 h2 h3 => (by decide +kernel : ∀ t : Fin cfg0.N, conds0_A (grid0.coords t) → cfg0.idle 4 (grid0.coords t) = true) t ⟨h0, h1, h2, h3⟩
/-- At the points of case A the pipeline does not write output 4's block back. -/
theorem noFlush0_4_A : ∀ t : Fin cfg0.N, cond0_0 (grid0.coords t) → cond0_1 (grid0.coords t) → ¬cond0_2 (grid0.coords t) → ¬cond0_3 (grid0.coords t) → (cfg0.win 4).flush t = false :=
  fun t h0 h1 h2 h3 => (by decide +kernel : ∀ t : Fin cfg0.N, conds0_A (grid0.coords t) → (cfg0.win 4).flush t = false) t ⟨h0, h1, h2, h3⟩
/-- At the points of case B the printed configuration (`Cfg.idle`) calls output 4 idle: the case stores nothing into it. -/
theorem idleAt0_4_B : ∀ t : Fin cfg0.N, ¬cond0_0 (grid0.coords t) → ¬cond0_1 (grid0.coords t) → cond0_2 (grid0.coords t) → ¬cond0_3 (grid0.coords t) → cfg0.idle 4 (grid0.coords t) = true :=
  fun t h0 h1 h2 h3 => (by decide +kernel : ∀ t : Fin cfg0.N, conds0_B (grid0.coords t) → cfg0.idle 4 (grid0.coords t) = true) t ⟨h0, h1, h2, h3⟩
/-- At the points of case B the pipeline does not write output 4's block back. -/
theorem noFlush0_4_B : ∀ t : Fin cfg0.N, ¬cond0_0 (grid0.coords t) → ¬cond0_1 (grid0.coords t) → cond0_2 (grid0.coords t) → ¬cond0_3 (grid0.coords t) → (cfg0.win 4).flush t = false :=
  fun t h0 h1 h2 h3 => (by decide +kernel : ∀ t : Fin cfg0.N, conds0_B (grid0.coords t) → (cfg0.win 4).flush t = false) t ⟨h0, h1, h2, h3⟩
/-- At the points of case C the printed configuration (`Cfg.idle`) calls output 4 live: the case stores into it. -/
theorem liveAt0_4_C : ∀ t : Fin cfg0.N, ¬cond0_0 (grid0.coords t) → ¬cond0_1 (grid0.coords t) → cond0_2 (grid0.coords t) → cond0_3 (grid0.coords t) → cfg0.idle 4 (grid0.coords t) = false :=
  fun t h0 h1 h2 h3 => (by decide +kernel : ∀ t : Fin cfg0.N, conds0_C (grid0.coords t) → cfg0.idle 4 (grid0.coords t) = false) t ⟨h0, h1, h2, h3⟩

/-! ## The kernel body on any staging memrefs: a subtype the run finds -/

/-- One staging buffer of output window 4, through which its contents are stated (`View.read_writes_of_cover`: the
    choice does not matter). -/
abbrev VO0_4 : View sig .tc .vmem S256x1024 .bf16 := (Memref.whole cc0_stg4_0 : Memref sig .tc .vmem S256x1024 .bf16).view
/-- Each window's current staging memref at point `t`, spelled as the pipeline passes it (`bodyAt0`), and its wholeness. -/
abbrev ms0_0 (t : Fin cfg0.N) : Memref sig .tc .vmem S256x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S8x64x128 .i32 := Memref.whole cc0_scratch0
abbrev scM0_1 : Memref sig .tc .vmem S8x64x2x128 .bf16 := Memref.whole cc0_scratch1
abbrev scM0_2 : Memref sig .tc .vmem S1024x1024 .bf16 := Memref.whole cc0_scratch2
abbrev scM0_3 : Memref sig .tc .vmem S256x1024 .f32 := Memref.whole cc0_scratch3
/-- The scratch `arg7` the kernel carries between points, as a view: what it holds is stated through it. -/
abbrev VS0_0 : View sig .tc .vmem S8x64x128 .i32 := scM0_0.view
/-- The scratch `arg8` the kernel carries between points, as a view: what it holds is stated through it. -/
abbrev VS0_1 : View sig .tc .vmem S8x64x2x128 .bf16 := scM0_1.view
/-- The scratch `arg10` the kernel carries between points, as a view: what it holds is stated through it. -/
abbrev VS0_3 : View sig .tc .vmem S256x1024 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.KernelIdeal.Frame.RunA.lean ====
module

public import proofs.«01_k».proof.Proof.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 7840000 in set_option sl_exec.stridedRows true in
/-- What the body's stores leave in each output's staging memref, as pieces (last first) IN CASE A (`scf.if` 0 taken, `scf.if` 1 taken, `scf.if` 2 not taken, `scf.if` 3 not taken: points 0, 8, … 120: 16 of 128), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) :
    Σ' (L4 : List (View.Piece (Elt F) S256x1024 .bf16)), Σ' (LS0 : List (View.Piece (Elt F) S8x64x128 .i32)), Σ' (LS1 : List (View.Piece (Elt F) S8x64x2x128 .bf16)), Σ' (LS3 : List (View.Piece (Elt F) S256x1024 .f32)), { LT2 : List (View.Piece (Elt F) S1024x1024 .bf16) //
      ∀ (xi4 : Vec F S256x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LT2) ∗ (∃ f, arg10.view.loc (c : Thread nD τ) ↦[arg10.view.set]{fullShare} arg10.view.writes (Elt F) f LS3)) -∗ K ⟨⟩))
          ⊢ wp frame (wpE (defs₀ (F := F)) Variants.none c none) E (cc0_awq_int4_linear i arg2 harg2 arg3 harg3 arg4 harg4 arg5 harg5 arg6 harg6 arg7 harg7 arg8 harg8 arg9 harg9 arg10 harg10) K } := by
  refine ⟨[], ?_, ?_, ?_, ?_, fun xi4 E K => ?run⟩
  case run =>
    simp only [cc0_awq_int4_linear_eq_skeleton]; unfold cc0_awq_int4_linear_skel
    simp only [k0_part360_eq_skeleton, k0_part313_eq_skeleton, k0_part90_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part91_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Gen

end
-- ==== Proof.KernelIdeal.Frame.RunB.lean ====
module

public import proofs.«01_k».proof.Proof.KernelIdeal.Frame.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3264000 in set_option sl_exec.stridedRows true in
/-- What the body's stores leave in each output's staging memref, as pieces (last first) IN CASE B (`scf.if` 0 not taken, `scf.if` 1 not taken, `scf.if` 2 taken, `scf.if` 3 not taken: points 1, 2, … 126: 96 of 128), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : ¬cond0_3 i)
    (x0 : Vec F S256x8192 .bf16) (x1 : Vec F S1024x128 .i32) (x2 : Vec F S64x128 .i32) (x3 : Vec F S64x1024 .bf16) (xs0 : Vec F S8x64x128 .i32) (xs1 : Vec F S8x64x2x128 .bf16) (xs3 : Vec F S256x1024 .f32) :
    Σ' (L4 : List (View.Piece (Elt F) S256x1024 .bf16)), Σ' (LS0 : List (View.Piece (Elt F) S8x64x128 .i32)), Σ' (LS1 : List (View.Piece (Elt F) S8x64x2x128 .bf16)), Σ' (LS3 : List (View.Piece (Elt F) S256x1024 .f32)), { LT2 : List (View.Piece (Elt F) S1024x1024 .bf16) //
      ∀ (xi4 : Vec F S256x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ (∃ d, owns (c : Thread nD τ) arg9 fullShare d) ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1 ∗ (∃ f, arg9.view.loc (c : Thread nD τ) ↦[arg9.view.set]{fullShare} arg9.view.writes (Elt F) f LT2) ∗ (∃ f, arg10.view.loc (c : Thread nD τ) ↦[arg10.view.set]{fullShare} arg10.view.writes (Elt F) f LS3)) -∗ K ⟨⟩))
          ⊢ wp frame (wpE (defs₀ (F := F)) Variants.none c none) E (cc0_awq_int4_linear i arg2 harg2 arg3 harg3 arg4 harg4 arg5 harg5 arg6 harg6 arg7 harg7 arg8 harg8 arg9 harg9 arg10 harg10) K } := by
  refine ⟨[], [], [], ?_, ?_, fun xi4 E K => ?run⟩
  case run =>
    simp only [cc0_awq_int4_linear_eq_skeleton]; unfold cc0_awq_int4_linear_skel
    simp only [k0_part360_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg10.eq_unread hfs3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]
    · iexists _; isplitr; · ipureintro; exact harg7.read_unread _
      iexact HS0
    isplitl [HS1]
    · iexists _; isplitr; · ipureintro; exact harg8.read_unread _
      iexact HS1
    isplitl [HS2]; · iexists _; iexact HS2
    iexists _; iexact HS3

end Cert.KernelIdeal.Gen

end
-- ==== Proof.KernelIdeal.Frame.RunC.lean ====
module

public import proofs.«01_k».proof.Proof.KernelIdeal.Frame.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 7056000 in set_option sl_exec.stridedRows true in
/-- What the body's stores leave in each output's staging memref, as pieces (last first) IN CASE C (`scf.if` 0 not taken, `scf.if` 1 not taken, `scf.if` 2 taken, `scf.if` 3 taken: points 7, 15, … 127: 16 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : cond0_3 i)
    (x0 : Vec F S256x8192 .bf16) (x1 : Vec F S1024x128 .i32) (x2 : Vec F S64x128 .i32) (x3 : Vec F S64x1024 .bf16) (xs0 : Vec F S8x64x128 .i32) (xs1 : Vec F S8x64x2x128 .bf16) (xs3 : Vec F S256x1024 .f32) :
    Σ' (L4 : List (View.Piece (Elt F) S256x1024 .bf16)), Σ' (LS0 : List (View.Piece (Elt F) S8x64x128 .i32)), Σ' (LS1 : List (View.Piece (Elt F) S8x64x2x128 .bf16)), Σ' (LS3 : List (View.Piece (Elt F) S256x1024 .f32)), { LT2 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1 ∗ (∃ d, owns (c : Thread nD τ) arg9 fullShare d) ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0 ∗ owns (c : Thread nD τ) arg8 fullShare xs1 ∗ (∃ f, arg9.view.loc (c : Thread nD τ) ↦[arg9.view.set]{fullShare} arg9.view.writes (Elt F) f LT2) ∗ (∃ f, arg10.view.loc (c : Thread nD τ) ↦[arg10.view.set]{fullShare} arg10.view.writes (Elt F) f LS3)) -∗ K ⟨⟩))
          ⊢ wp frame (wpE (defs₀ (F := F)) Variants.none c none) E (cc0_awq_int4_linear i arg2 harg2 arg3 harg3 arg4 harg4 arg5 harg5 arg6 harg6 arg7 harg7 arg8 harg8 arg9 harg9 arg10 harg10) K } := by
  refine ⟨?_, [], [], ?_, ?_, fun E K => ?run⟩
  case run =>
    simp only [cc0_awq_int4_linear_eq_skeleton]; unfold cc0_awq_int4_linear_skel
    simp only [k0_part360_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part312_eq_skeleton, k0_part309_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part310_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part311_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%ds2, %fs2, -, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1; obtain rfl := harg10.eq_unread hfs3
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]
    · iexists _; isplitr; · ipureintro; exact harg7.read_unread _
      iexact HS0
    isplitl [HS1]
    · iexists _; isplitr; · ipureintro; exact harg8.read_unread _
      iexact HS1
    isplitl [HS2]; · iexists _; iexact HS2
    iexists _; iexact HS3

end Cert.KernelIdeal.Gen

end
-- ==== Proof.KernelIdeal.Frame.lean ====
module

public import proofs.«01_k».proof.Proof.StridedCover
public import proofs.«01_k».proof.Proof.KernelIdeal.Frame.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) : Vec F S256x1024 .bf16 :=
  VO0_4.read (Elt F) (VO0_4.writes (Elt F) VO0_4.junk (kernelRun0_A c i arg2 harg2 arg3 harg3 arg4 harg4 arg5 harg5 arg6 harg6 arg7 harg7 arg8 harg8 arg9 harg9 arg10 harg10 hc0 hc1 hc2 hc3 x0 x1 x2 x3).1)

/-- Case A's pieces for scratch `arg7`, which the kernel carries between points, cover it: 64 pieces of `S1x8x128` tiling it (Lib/Ring.lean `Piece.tiledL`). -/
theorem scover0_A_0 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) (y : S8x64x128.Idx) :
    ∃ pc ∈ (kernelRun0_A c i arg2 harg2 arg3 harg3 arg4 harg4 arg5 harg5 arg6 harg6 arg7 harg7 arg8 harg8 arg9 harg9 arg10 harg10 hc0 hc1 hc2 hc3 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 x0 x1 x2 x3).2.1 S1x8x128.size (by sl_kernel_rfl) y

/-- What case A leaves in scratch `arg7`: its pieces read back over junk. -/
def sout0_A_0 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) : Vec F S8x64x128 .i32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 hc2 hc3 x0 x1 x2 x3).2.1)

/-- Case A's pieces for scratch `arg8`, which the kernel carries between points, cover it: 64 strided pieces of `S1x8x2x128`, by the certificate of StridedCover.lean. -/
theorem scover0_A_1 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) (y : S8x64x2x128.Idx) :
    ∃ pc ∈ (kernelRun0_A c i arg2 harg2 arg3 harg3 arg4 harg4 arg5 harg5 arg6 harg6 arg7 harg7 arg8 harg8 arg9 harg9 arg10 harg10 hc0 hc1 hc2 hc3 x0 x1 x2 x3).2.2.1, y ∈ pc.1.set :=
  Cert.Strided.cover_of_cov (kernelRun0_A c i arg2 harg2 arg3 harg3 arg4 harg4 arg5 harg5 arg6 harg6 arg7 harg7 arg8 harg8 arg9 harg9 arg10 harg10 hc0 hc1 hc2 hc3 x0 x1 x2 x3).2.2.1 Cert.Strided.scaleCov (by sl_kernel_rfl) y

/-- What case A leaves in scratch `arg8`: its pieces read back over junk. -/
def sout0_A_1 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) : Vec F S8x64x2x128 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 hc2 hc3 x0 x1 x2 x3).2.2.1)

/-- Case A's pieces for scratch `arg10`, which the kernel carries between points, cover it: 1 piece of `S256x1024` tiling it (Lib/Ring.lean `Piece.tiledL`). -/
theorem scover0_A_3 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) (y : S256x1024.Idx) :
    ∃ pc ∈ (kernelRun0_A c i arg2 harg2 arg3 harg3 arg4 harg4 arg5 harg5 arg6 harg6 arg7 harg7 arg8 harg8 arg9 harg9 arg10 harg10 hc0 hc1 hc2 hc3 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 hc2 hc3 x0 x1 x2 x3).2.2.2.1 S256x1024.size (by sl_kernel_rfl) y

/-- What case A leaves in scratch `arg10`: its pieces read back over junk. -/
def sout0_A_3 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) : Vec F S256x1024 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 hc0 hc1 hc2 hc3 x0 x1 x2 x3).2.2.2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : ¬cond0_3 i)
    (x0 : Vec F S256x8192 .bf16) (x1 : Vec F S1024x128 .i32) (x2 : Vec F S64x128 .i32) (x3 : Vec F S64x1024 .bf16) (xs0 : Vec F S8x64x128 .i32) (xs1 : Vec F S8x64x2x128 .bf16) (xs3 : Vec F S256x1024 .f32) : Vec F S256x1024 .bf16 :=
  VO0_4.read (Elt F) (VO0_4.writes (Elt F) VO0_4.junk (kernelRun0_B c i arg2 harg2 arg3 harg3 arg4 harg4 arg5 harg5 arg6 harg6 arg7 harg7 arg8 harg8 arg9 harg9 arg10 harg10 hc0 hc1 hc2 hc3 x0 x1 x2 x3 xs0 xs1 xs3).1)

/-- Case B stores nothing into scratch `arg7`: it holds what the point before left. -/
def sout0_B_0 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : ¬cond0_3 i)
    (x0 : Vec F S256x8192 .bf16) (x1 : Vec F S1024x128 .i32) (x2 : Vec F S64x128 .i32) (x3 : Vec F S64x1024 .bf16) (xs0 : Vec F S8x64x128 .i32) (xs1 : Vec F S8x64x2x128 .bf16) (xs3 : Vec F S256x1024 .f32) : Vec F S8x64x128 .i32 := xs0

/-- Case B stores nothing into scratch `arg8`: it holds what the point before left. -/
def sout0_B_1 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : ¬cond0_3 i)
    (x0 : Vec F S256x8192 .bf16) (x1 : Vec F S1024x128 .i32) (x2 : Vec F S64x128 .i32) (x3 : Vec F S64x1024 .bf16) (xs0 : Vec F S8x64x128 .i32) (xs1 : Vec F S8x64x2x128 .bf16) (xs3 : Vec F S256x1024 .f32) : Vec F S8x64x2x128 .bf16 := xs1

/-- Case B's pieces for scratch `arg10`, which the kernel carries between points, cover it: 1 piece of `S256x1024` tiling it (Lib/Ring.lean `Piece.tiledL`). -/
theorem scover0_B_3 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : ¬cond0_3 i)
    (x0 : Vec F S256x8192 .bf16) (x1 : Vec F S1024x128 .i32) (x2 : Vec F S64x128 .i32) (x3 : Vec F S64x1024 .bf16) (xs0 : Vec F S8x64x128 .i32) (xs1 : Vec F S8x64x2x128 .bf16) (xs3 : Vec F S256x1024 .f32) (y : S256x1024.Idx) :
    ∃ pc ∈ (kernelRun0_B c i arg2 harg2 arg3 harg3 arg4 harg4 arg5 harg5 arg6 harg6 arg7 harg7 arg8 harg8 arg9 harg9 arg10 harg10 hc0 hc1 hc2 hc3 x0 x1 x2 x3 xs0 xs1 xs3).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 hc2 hc3 x0 x1 x2 x3 xs0 xs1 xs3).2.2.2.1 S256x1024.size (by sl_kernel_rfl) y

/-- What case B leaves in scratch `arg10`: its pieces read back over junk. -/
def sout0_B_3 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : ¬cond0_3 i)
    (x0 : Vec F S256x8192 .bf16) (x1 : Vec F S1024x128 .i32) (x2 : Vec F S64x128 .i32) (x3 : Vec F S64x1024 .bf16) (xs0 : Vec F S8x64x128 .i32) (xs1 : Vec F S8x64x2x128 .bf16) (xs3 : Vec F S256x1024 .f32) : Vec F S256x1024 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 hc0 hc1 hc2 hc3 x0 x1 x2 x3 xs0 xs1 xs3).2.2.2.1)

/-- Case C's pieces for output 4 tile its block (128 stores of `S16x128`, checked by the kernel's evaluation: Lib/Ring.lean `Piece.tiledL`, linear in the pieces, through a loop's `@[irreducible]` trip theorem too), so they cover it. -/
theorem cover0_C_4 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : cond0_3 i)
    (x0 : Vec F S256x8192 .bf16) (x1 : Vec F S1024x128 .i32) (x2 : Vec F S64x128 .i32) (x3 : Vec F S64x1024 .bf16) (xs0 : Vec F S8x64x128 .i32) (xs1 : Vec F S8x64x2x128 .bf16) (xs3 : Vec F S256x1024 .f32) (y : S256x1024.Idx) :
    ∃ pc ∈ (kernelRun0_C c i arg2 harg2 arg3 harg3 arg4 harg4 arg5 harg5 arg6 harg6 arg7 harg7 arg8 harg8 arg9 harg9 arg10 harg10 hc0 hc1 hc2 hc3 x0 x1 x2 x3 xs0 xs1 xs3).1, y ∈ pc.1.set :=
  View.cover_of_tiledL (kernelRun0_C c i arg2 harg2 arg3 harg3 arg4 harg4 arg5 harg5 arg6 harg6 arg7 harg7 arg8 harg8 arg9 harg9 arg10 harg10 hc0 hc1 hc2 hc3 x0 x1 x2 x3 xs0 xs1 xs3).1 S16x128.size (by sl_kernel_rfl) y

/-- What case C leaves in output 4's staging buffer: its pieces read back over junk. -/
def out0_C_4 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : cond0_3 i)
    (x0 : Vec F S256x8192 .bf16) (x1 : Vec F S1024x128 .i32) (x2 : Vec F S64x128 .i32) (x3 : Vec F S64x1024 .bf16) (xs0 : Vec F S8x64x128 .i32) (xs1 : Vec F S8x64x2x128 .bf16) (xs3 : Vec F S256x1024 .f32) : Vec F S256x1024 .bf16 :=
  VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 hc2 hc3 x0 x1 x2 x3 xs0 xs1 xs3).1)

/-- Case C stores nothing into scratch `arg7`: it holds what the point before left. -/
def sout0_C_0 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : cond0_3 i)
    (x0 : Vec F S256x8192 .bf16) (x1 : Vec F S1024x128 .i32) (x2 : Vec F S64x128 .i32) (x3 : Vec F S64x1024 .bf16) (xs0 : Vec F S8x64x128 .i32) (xs1 : Vec F S8x64x2x128 .bf16) (xs3 : Vec F S256x1024 .f32) : Vec F S8x64x128 .i32 := xs0

/-- Case C stores nothing into scratch `arg8`: it holds what the point before left. -/
def sout0_C_1 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : cond0_3 i)
    (x0 : Vec F S256x8192 .bf16) (x1 : Vec F S1024x128 .i32) (x2 : Vec F S64x128 .i32) (x3 : Vec F S64x1024 .bf16) (xs0 : Vec F S8x64x128 .i32) (xs1 : Vec F S8x64x2x128 .bf16) (xs3 : Vec F S256x1024 .f32) : Vec F S8x64x2x128 .bf16 := xs1

/-- Case C's pieces for scratch `arg10`, which the kernel carries between points, cover it: 1 piece of `S256x1024` tiling it (Lib/Ring.lean `Piece.tiledL`). -/
theorem scover0_C_3 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : cond0_3 i)
    (x0 : Vec F S256x8192 .bf16) (x1 : Vec F S1024x128 .i32) (x2 : Vec F S64x128 .i32) (x3 : Vec F S64x1024 .bf16) (xs0 : Vec F S8x64x128 .i32) (xs1 : Vec F S8x64x2x128 .bf16) (xs3 : Vec F S256x1024 .f32) (y : S256x1024.Idx) :
    ∃ pc ∈ (kernelRun0_C c i arg2 harg2 arg3 harg3 arg4 harg4 arg5 harg5 arg6 harg6 arg7 harg7 arg8 harg8 arg9 harg9 arg10 harg10 hc0 hc1 hc2 hc3 x0 x1 x2 x3 xs0 xs1 xs3).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 hc2 hc3 x0 x1 x2 x3 xs0 xs1 xs3).2.2.2.1 S256x1024.size (by sl_kernel_rfl) y

/-- What case C leaves in scratch `arg10`: its pieces read back over junk. -/
def sout0_C_3 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : cond0_3 i)
    (x0 : Vec F S256x8192 .bf16) (x1 : Vec F S1024x128 .i32) (x2 : Vec F S64x128 .i32) (x3 : Vec F S64x1024 .bf16) (xs0 : Vec F S8x64x128 .i32) (xs1 : Vec F S8x64x2x128 .bf16) (xs3 : Vec F S256x1024 .f32) : Vec F S256x1024 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 hc0 hc1 hc2 hc3 x0 x1 x2 x3 xs0 xs1 xs3).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x1024 .bf16 × Vec F S8x64x128 .i32 × Vec F S8x64x2x128 .bf16 × Vec F S256x1024 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 0 then
        if h2 : 1 ≤ (n + 1) % 8 then
          False.elim (by have hN : n + 1 < 128 := lt_of_lt_of_eq hn (show cfg0.N = 128 from N_0); omega)
        else
          if h3 : (n + 1) % 8 = 7 then
            False.elim (by have hN : n + 1 < 128 := lt_of_lt_of_eq hn (show cfg0.N = 128 from N_0); omega)
          else
            (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩))
      else
        False.elim (by have hN : n + 1 < 128 := lt_of_lt_of_eq hn (show cfg0.N = 128 from N_0); omega)
    else
      if h1 : (n + 1) % 8 = 0 then
        False.elim (by have hN : n + 1 < 128 := lt_of_lt_of_eq hn (show cfg0.N = 128 from N_0); omega)
      else
        if h2 : 1 ≤ (n + 1) % 8 then
          if h3 : (n + 1) % 8 = 7 then
            (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)
          else
            (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)
        else
          False.elim (by have hN : n + 1 < 128 := lt_of_lt_of_eq hn (show cfg0.N = 128 from N_0); omega)

/-- `outsAt0` at a point of case A: that case's contents. -/
theorem outsAt0_A (c : Dev nD) (t : Fin cfg0.N) (h0 : t.val % 8 = 0) (h1 : t.val % 8 = 0) (h2 : ¬1 ≤ t.val % 8) (h3 : ¬t.val % 8 = 7) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t), sout0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t)) := by
  obtain ⟨n, hn⟩ := t
  cases n with
  | zero => exact rfl
  | succ n => exact (dif_pos h0).trans ((dif_pos h1).trans ((dif_neg h2).trans ((dif_neg h3).trans rfl)))

/-- `outsAt0` at a point of case B: that case's contents, over what the point before left. -/
theorem outsAt0_B (c : Dev nD) (t : Fin cfg0.N) (h0 : ¬t.val % 8 = 0) (h1 : ¬t.val % 8 = 0) (h2 : 1 ≤ t.val % 8) (h3 : ¬t.val % 8 = 7) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case C: that case's contents, over what the point before left. -/
theorem outsAt0_C (c : Dev nD) (t : Fin cfg0.N) (h0 : ¬t.val % 8 = 0) (h1 : ¬t.val % 8 = 0) (h2 : 1 ≤ t.val % 8) (h3 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ (∃ d, owns (c : Thread nD τ) scM0_2 fullShare d) ∗ owns (c : Thread nD τ) scM0_3 fullShare ((outsAt0 m c n hn).2.2.2)) ∗ (∃ r, prngReg c r))

/-- Before the first point the invariant is the class's own. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ (∃ d, owns (c : Thread nD τ) scM0_2 fullShare d) ∗ owns (c : Thread nD τ) scM0_3 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ (∃ d, owns (c : Thread nD τ) scM0_2 fullShare d) ∗ owns (c : Thread nD τ) scM0_3 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Input 1's current staging buffer holds its block at every point. -/
theorem before0_1 (c : Dev nD) (t : Fin cfg0.N) (d) : (dats m 0 c).before 1 t d = iblk m c 1 t :=
  before0_1_of m (dats m 0 c) (A_eq m c 1) (after0_1 m c) t d
/-- Input 2's current staging buffer holds its block at every point. -/
theorem before0_2 (c : Dev nD) (t : Fin cfg0.N) (d) : (dats m 0 c).before 2 t d = iblk m c 2 t :=
  before0_2_of m (dats m 0 c) (A_eq m c 2) (after0_2 m c) t d
/-- Input 3's current staging buffer holds its block at every point. -/
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 12000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · by_cases h1 : t.val % 8 = 0
    · by_cases h2 : 1 ≤ t.val % 8
      · exfalso; omega
      · by_cases h3 : t.val % 8 = 7
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [Dat.leavesExact_idle (dats m 0 c) 4 t (idleAt0_4_A t ((hcond0_0 t).mpr h0) ((hcond0_1 t).mpr h1) (fun h => h2 ((hcond0_2 t).mp h)) (fun h => h3 ((hcond0_3 t).mp h))) (noFlush0_4_A t ((hcond0_0 t).mpr h0) ((hcond0_1 t).mpr h1) (fun h => h2 ((hcond0_2 t).mp h)) (fun h => h3 ((hcond0_3 t).mp h)))]
          by_cases hz : t.val = 0
          · rw [PhiS_castSucc m c t, PhiS_zero m c _ _ hz, PhiA0_eq]
            rw [outsAt0_A m c t h0 h1 h2 h3]
            unfold sout0_A_0 sout0_A_1 sout0_A_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩⟩
            iapply ((kernelRun0_A c (grid0.coords t) _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t)).2.2.2.2.2 _ Set.univ _)
            isplitl [H0]; · iexact H0
            isplitl [H1]; · iexact H1
            isplitl [H2]; · iexact H2
            isplitl [H3]; · iexact H3
            isplitl [H4]; · iexact H4
            isplitl [HS0]; · iexact HS0
            isplitl [HS1]; · iexact HS1
            isplitl [HS2]; · iexact HS2
            isplitl [HS3]; · iexact HS3
            iintro ⟨H0, H1, H2, H3, H4, ⟨%es0, HS0⟩, ⟨%es1, HS1⟩, ⟨%fT2, HS2⟩, ⟨%es3, HS3⟩⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _)
                isplitl [HS2]
                · iexists _; unfold owns; iexists _; isplitr
                  swap; · iexact HS2
                  ipureintro; rfl
                unfold owns; iexists _; isplitr
                swap; · iexact HS3
                ipureintro; exact View.read_writes_of_cover _ _ _ _ _ (scover0_A_3 c _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            iexists _; iexact H4
          · rw [PhiS_castSucc m c t, PhiS_pos m c _ _ hz]
            rw [outsAt0_A m c t h0 h1 h2 h3]
            unfold sout0_A_0 sout0_A_1 sout0_A_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩⟩
            iapply ((kernelRun0_A c (grid0.coords t) _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t)).2.2.2.2.2 _ Set.univ _)
            isplitl [H0]; · iexact H0
            isplitl [H1]; · iexact H1
            isplitl [H2]; · iexact H2
            isplitl [H3]; · iexact H3
            isplitl [H4]; · iexact H4
            isplitl [HS0]; · iexists _; iexact HS0
            isplitl [HS1]; · iexists _; iexact HS1
            isplitl [HS2]; · iexact HS2
            isplitl [HS3]; · iexists _; iexact HS3
            iintro ⟨H0, H1, H2, H3, H4, ⟨%es0, HS0⟩, ⟨%es1, HS1⟩, ⟨%fT2, HS2⟩, ⟨%es3, HS3⟩⟩
            isplitl [HS0 HS1 HS2 HS3 Hg]
            · isplitl [HS0 HS1 HS2 HS3]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _)
                isplitl [HS2]
                · iexists _; unfold owns; iexists _; isplitr
                  swap; · iexact HS2
                  ipureintro; rfl
                unfold owns; iexists _; isplitr
                swap; · iexact HS3
                ipureintro; exact View.read_writes_of_cover _ _ _ _ _ (scover0_A_3 c _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            iexists _; iexact H4
    · exfalso; omega
  · by_cases h1 : t.val % 8 = 0
    · exfalso; omega
    · by_cases h2 : 1 ≤ t.val % 8
      · by_cases h3 : t.val % 8 = 7
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4_C t (fun h => h0 ((hcond0_0 t).mp h)) (fun h => h1 ((hcond0_1 t).mp h)) ((hcond0_2 t).mpr h2) ((hcond0_3 t).mpr h3)], after0_4]
          by_cases hz : t.val = 0
          · exfalso; have hN : t.val < 128 := lt_of_lt_of_eq t.isLt (show cfg0.N = 128 from N_0); omega
          · rw [PhiS_castSucc m c t, PhiS_pos m c _ _ hz]
            rw [outsAt0_C m c t h0 h1 h2 h3]
            unfold out0_C_4 sout0_C_0 sout0_C_1 sout0_C_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩⟩
            iapply ((kernelRun0_C c (grid0.coords t) _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) _ _ _).2.2.2.2.2 Set.univ _)
            isplitl [H0]; · iexact H0
            isplitl [H1]; · iexact H1
            isplitl [H2]; · iexact H2
            isplitl [H3]; · iexact H3
            isplitl [H4]; · iexists _; iexact H4
            isplitl [HS0]; · iexact HS0
            isplitl [HS1]; · iexact HS1
            isplitl [HS2]; · iexact HS2
            isplitl [HS3]; · iexact HS3
            iintro ⟨H0, H1, H2, H3, ⟨%e4, H4⟩, HS0, HS1, ⟨%fT2, HS2⟩, ⟨%es3, HS3⟩⟩
            isplitl [HS0 HS1 HS2 HS3 Hg]
            · isplitl [HS0 HS1 HS2 HS3]
              · isplitl [HS0]
                · iexact HS0
                isplitl [HS1]
                · iexact HS1
                isplitl [HS2]
                · iexists _; unfold owns; iexists _; isplitr
                  swap; · iexact HS2
                  ipureintro; rfl
                unfold owns; iexists _; isplitr
                swap; · iexact HS3
                ipureintro; exact View.read_writes_of_cover _ _ _ _ _ (scover0_C_3 c _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            unfold owns; iexists _; isplitr
            swap; · iexact H4
            ipureintro; exact View.read_writes_of_cover _ _ _ _ _ (cover0_C_4 c _ _ _ _ _ _ _ _ _ _ _ _ _ _ _ _ _ _ _ _ _ _ _ _ _ _ _ _ _ _)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [Dat.leavesExact_idle (dats m 0 c) 4 t (idleAt0_4_B t (fun h => h0 ((hcond0_0 t).mp h)) (fun h => h1 ((hcond0_1 t).mp h)) ((hcond0_2 t).mpr h2) (fun h => h3 ((hcond0_3 t).mp h))) (noFlush0_4_B t (fun h => h0 ((hcond0_0 t).mp h)) (fun h => h1 ((hcond0_1 t).mp h)) ((hcond0_2 t).mpr h2) (fun h => h3 ((hcond0_3 t).mp h)))]
          by_cases hz : t.val = 0
          · exfalso; have hN : t.val < 128 := lt_of_lt_of_eq t.isLt (show cfg0.N = 128 from N_0); omega
          · rw [PhiS_castSucc m c t, PhiS_pos m c _ _ hz]
            rw [outsAt0_B m c t h0 h1 h2 h3]
            unfold sout0_B_0 sout0_B_1 sout0_B_3; (try dsimp only)
            iintro ⟨⟨⟨HS0, HS1, HS2, HS3⟩, Hg⟩, Ho, ⟨%d0, H0⟩, ⟨%d1, H1⟩, ⟨%d2, H2⟩, ⟨%d3, H3⟩, ⟨%d4, H4⟩⟩
            iapply ((kernelRun0_B c (grid0.coords t) _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) _ _ _).2.2.2.2.2 _ Set.univ _)
            isplitl [H0]; · iexact H0
            isplitl [H1]; · iexact H1
            isplitl [H2]; · iexact H2
            isplitl [H3]; · iexact H3
            isplitl [H4]; · iexact H4
            isplitl [HS0]; · iexact HS0
            isplitl [HS1]; · iexact HS1
            isplitl [HS2]; · iexact HS2
            isplitl [HS3]; · iexact HS3
            iintro ⟨H0, H1, H2, H3, H4, HS0, HS1, ⟨%fT2, HS2⟩, ⟨%es3, HS3⟩⟩
            isplitl [HS0 HS1 HS2 HS3 Hg]
            · isplitl [HS0 HS1 HS2 HS3]
              · isplitl [HS0]
                · iexact HS0
                isplitl [HS1]
                · iexact HS1
                isplitl [HS2]
                · iexists _; unfold owns; iexists _; isplitr
                  swap; · iexact HS2
                  ipureintro; rfl
                unfold owns; iexists _; isplitr
                swap; · iexact HS3
                ipureintro; exact View.read_writes_of_cover _ _ _ _ _ (scover0_B_3 c _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            iexists _; iexact H4
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Value.Payload.lean ====
module

public import proofs.«01_k».proof.Proof.KernelIdeal.Frame

@[expose] public section

set_option maxRecDepth 16384

noncomputable section

/-! The vectors the kernel stores, written once for every tile: each definition takes the number of its tile, so that
the pieces of one buffer are one family. -/

namespace Cert.KernelIdeal.Value

open Idealize.ShloMosaic Idealize.ShloMosaic.TcCoe Idealize.ShloMosaic.Tactic
open Cert.KernelIdeal.Gen

variable {F : FTy → Type} [FloatOps F]

/-- The bit position of the field that holds column `p` of a group of eight, in its word: four times the inverse
    packing order of `p`. -/
def fieldShift (p : ℕ) : ℕ := 4 * (p / 2 + 4 * (p % 2))

/-! ## Zeros -/

/-- One tile of zero words: field `p`, in both halves, over the exponent `0x4300`. -/
def zword (p : ℕ) (v : IVec S8x128 32) : IVec S1x8x128 32 :=
  let a := andi (shrui v (broadcast S8x128 (BitVec.ofNat 32 (fieldShift p)))) (broadcast S8x128 15#32)
  shapeCast S1x8x128 (ori (ori a (shli a (broadcast S8x128 16#32))) (broadcast S8x128 1124090624#32)) shapeCasts_S8x128_S1x8x128

/-- Word tile `r` of the zeros' block lies inside the block. -/
theorem inb_zTile (r : ℕ) (h : r < 8) : ∀ a, (![8 * r, 0] : Fin 2 → ℕ) a + S8x128.size a ≤ S64x128.size a := by
  intro a; fin_cases a <;> simp [S8x128, S64x128]; omega
/-- The stored tile of zero words of field `p`, rows `8r …`, lies inside the scratch. -/
theorem inb_zPiece (p r : ℕ) (hp : p < 8) (h : r < 8) :
    ∀ a, (![p, 8 * r, 0] : Fin 3 → ℕ) a + S1x8x128.size a ≤ S8x64x128.size a := by
  intro a; fin_cases a <;> simp [S1x8x128, S8x64x128] <;> omega

/-- The load of word tile `r` of the zeros' block. -/
def zTile (arg4 : Memref sig .tc .vmem S64x128 .i32) (harg4 : arg4.IsWhole) (x2 : Vec F S64x128 .i32) (r : ℕ) (h : r < 8) :
    IVec S8x128 32 :=
  View.readAt (Elt F) arg4.view (Rect.unit (s := S64x128) ![8 * r, 0] S8x128.size (inb_zTile r h)).toLoadRect (harg4.unread x2)

/-- The stores of the zero words, last first: eight word tiles, each at eight fields. -/
def zPieces (arg4 : Memref sig .tc .vmem S64x128 .i32) (harg4 : arg4.IsWhole) (x2 : Vec F S64x128 .i32) :
    (n : ℕ) → n ≤ 64 → List (View.Piece (Elt F) S8x64x128 .i32)
  | 0, _ => []
  | n + 1, h =>
    ⟨Rect.unit ![n % 8, 8 * (n / 8), 0] S1x8x128.size (inb_zPiece (n % 8) (n / 8) (by omega) (by omega)),
      zword (n % 8) (zTile arg4 harg4 x2 (n / 8) (by omega))⟩
      :: zPieces arg4 harg4 x2 n (Nat.le_of_succ_le h)

set_option Elab.async false in
/-- The stores the first point of a block of columns makes into the zeros' scratch are `zPieces`. -/
theorem HS0_eq (c : Dev nD) (arg4 : Memref sig .tc .vmem S64x128 .i32) (harg4 : arg4.IsWhole) (x2 : Vec F S64x128 .i32) :
    kernelRun0_A.sl.HS0_64 c arg4 harg4 x2 = zPieces arg4 harg4 x2 64 le_rfl := by
  sl_kernel_rfl

/-! ## Weights -/

/-- The words of `128` rows at one half each: rows `2r` and `2r + 1` of the low (`j < 4`) or high halves, as one word. -/
def halfWords (j : ℕ) (v : IVec S128x128 32) : IVec S64x128 32 :=
  bitcast S64x128 32
    (if j < 4 then trunci 16 v natLt_16_32 else trunci 16 (shrui v (broadcast S128x128 16#32)) natLt_16_32)
    bitcasts_S128x128_w16_S64x128_w32

/-- The words of the pairs of field `j`, each `128 + q` in bf16. -/
def qbits (j : ℕ) (v : IVec S128x128 32) : IVec S64x128 32 :=
  ori (andi (shrui (halfWords j v) (broadcast S64x128 (BitVec.ofNat 32 (4 * (j % 4))))) (broadcast S64x128 983055#32))
    (broadcast S64x128 1124090624#32)

/-- One row of zero words, at every row of a tile, as bf16. -/
def zRowF (z : IVec S1x1x128 32) : FVec F S128x128 .bf16 :=
  bitcastToFloat .bf16 (bitcast S128x128 16
    (broadcastTo S64x128 (shapeCast S1x128 (shapeCast S1x128 z shapeCasts_S1x1x128_S1x128) shapeCasts_S1x128_S1x128)
      broadcasts_S1x128_S64x128) bitcasts_S64x128_w32_S128x128_w16)

/-- One row of a pair of scales. -/
def sHalf (h : Fin 2) (s : FVec F S1x1x2x128 .bf16) : FVec F S1x128 .bf16 :=
  shapeCast S1x128 (shapeCast S1x1x128 (rowsOfParity h S1x1x1x128 s bitcasts_S1x1x2x128_w16_S1x1x1x128_w32)
    shapeCasts_S1x1x1x128_S1x1x128) shapeCasts_S1x1x128_S1x128

/-- A pair of rows of scales, at every pair of rows of a tile. -/
def sRowF (s : FVec F S1x1x2x128 .bf16) : FVec F S128x128 .bf16 :=
  shapeCast S128x128 (broadcastTo S64x2x128 (shapeCast S1x2x128 (shapeCast S1x2x128
    (interleaveRows S2x128 (sHalf 0 s) (sHalf 1 s) bitcasts_S2x128_w16_S1x128_w32) shapeCasts_S2x128_S1x2x128)
    shapeCasts_S1x2x128_S1x2x128) broadcasts_S1x2x128_S64x2x128) shapeCasts_S64x2x128_S128x128

/-- One tile of weights: `(q - z) · s`. -/
def wTile (j : ℕ) (v : IVec S128x128 32) (z : IVec S1x1x128 32) (s : FVec F S1x1x2x128 .bf16) : FVec F S128x128 .bf16 :=
  shapeCast S128x128 (mulf (subf (bitcastToFloat .bf16 (bitcast S128x128 16 (qbits j v) bitcasts_S64x128_w32_S128x128_w16))
    (zRowF z)) (sRowF s)) shapeCasts_S128x128_S128x128

/-- The row of the zeros and of the scales that group `g` of block `i` reads. -/
def gRow (i : grid0.Coords) (g : ℕ) : ℕ := k0_off2 i (BitVec.ofNat 32 g) 1

/-- The row a group of a block reads is one of the 64 groups' rows. -/
theorem gRow_lt (i : grid0.Coords) (g : ℕ) (h : g < 8) : gRow i g + 1 ≤ 64 := k0_off2_inb i ⟨g, h⟩ 1

/-- The words of group `g` lie inside the block of words. -/
theorem inb_q (g : ℕ) (h : g < 8) : ∀ a, (![128 * g, 0] : Fin 2 → ℕ) a + S128x128.size a ≤ S1024x128.size a := by
  intro a; fin_cases a <;> simp [S128x128, S1024x128]; omega
/-- The row of zeros a group reads, at field `p`, lies inside the scratch. -/
theorem inb_zRow (i : grid0.Coords) (p g : ℕ) (hp : p < 8) (h : g < 8) :
    ∀ a, (![p, gRow i g, 0] : Fin 3 → ℕ) a + S1x1x128.size a ≤ S8x64x128.size a := by
  have := gRow_lt i g h
  intro a; fin_cases a <;> simp [S1x1x128, S8x64x128] <;> omega
/-- The row of scales a group reads, at field `p`, lies inside the scratch. -/
theorem inb_sRow (i : grid0.Coords) (p g : ℕ) (hp : p < 8) (h : g < 8) :
    ∀ a, (![p, gRow i g, 0, 0] : Fin 4 → ℕ) a + S1x1x2x128.size a ≤ S8x64x2x128.size a := by
  have := gRow_lt i g h
  intro a; fin_cases a <;> simp [S1x1x2x128, S8x64x2x128] <;> omega
/-- The stored weights of group `g` and field `p` lie inside the weights' scratch. -/
theorem inb_w (p g : ℕ) (hp : p < 8) (h : g < 8) :
    ∀ a, (![128 * g, 128 * p] : Fin 2 → ℕ) a + S128x128.size a ≤ S1024x1024.size a := by
  intro a; fin_cases a <;> simp [S128x128, S1024x1024] <;> omega

/-- The stores of the weights, last first: eight groups of rows, each at eight fields. -/
def wPieces (i : grid0.Coords) (arg3 : Memref sig .tc .vmem S1024x128 .i32) (harg3 : arg3.IsWhole)
    (arg7 : Memref sig .tc .vmem S8x64x128 .i32) (arg8 : Memref sig .tc .vmem S8x64x2x128 .bf16)
    (x1 : Vec F S1024x128 .i32) (f7 : arg7.view.ty.Contents (Elt F)) (f8 : arg8.view.ty.Contents (Elt F)) :
    (n : ℕ) → n ≤ 64 → List (View.Piece (Elt F) S1024x1024 .bf16)
  | 0, _ => []
  | n + 1, h =>
    ⟨Rect.unit ![128 * (n / 8), 128 * (n % 8)] S128x128.size (inb_w (n % 8) (n / 8) (by omega) (by omega)),
      wTile (fieldShift (n % 8) / 4)
        (View.readAt (Elt F) arg3.view (Rect.unit (s := S1024x128) ![128 * (n / 8), 0] S128x128.size
          (inb_q (n / 8) (by omega))).toLoadRect (harg3.unread x1))
        (View.readAt (Elt F) arg7.view (Rect.unit (s := S8x64x128) ![n % 8, gRow i (n / 8), 0] S1x1x128.size
          (inb_zRow i (n % 8) (n / 8) (by omega) (by omega))).toLoadRect f7)
        (View.readAt (Elt F) arg8.view (Rect.unit (s := S8x64x2x128) ![n % 8, gRow i (n / 8), 0, 0] S1x1x2x128.size
          (inb_sRow i (n % 8) (n / 8) (by omega) (by omega))).toLoadRect f8)⟩
      :: wPieces i arg3 harg3 arg7 arg8 x1 f7 f8 n (Nat.le_of_succ_le h)

set_option Elab.async false in
/-- The stores of weights at a point in the middle of a block of columns are `wPieces`. -/
theorem HS2_B_eq (c : Dev nD) (i : grid0.Coords) (arg3 : Memref sig .tc .vmem S1024x128 .i32) (harg3 : arg3.IsWhole)
    (arg7 : Memref sig .tc .vmem S8x64x128 .i32) (harg7 : arg7.IsWhole) (arg8 : Memref sig .tc .vmem S8x64x2x128 .bf16)
    (harg8 : arg8.IsWhole) (x1 : Vec F S1024x128 .i32) (xs0 : Vec F S8x64x128 .i32) (xs1 : Vec F S8x64x2x128 .bf16) :
    kernelRun0_B.sl.HS2_64 c i arg3 harg3 arg7 harg7 arg8 harg8 x1 xs0 xs1
      = wPieces i arg3 harg3 arg7 arg8 x1 (harg7.unread xs0) (harg8.unread xs1) 64 le_rfl := by
  sl_kernel_rfl

set_option Elab.async false in
/-- The stores of weights at the last point of a block of columns are `wPieces`. -/
theorem HS2_C_eq (c : Dev nD) (i : grid0.Coords) (arg3 : Memref sig .tc .vmem S1024x128 .i32) (harg3 : arg3.IsWhole)
    (arg7 : Memref sig .tc .vmem S8x64x128 .i32) (harg7 : arg7.IsWhole) (arg8 : Memref sig .tc .vmem S8x64x2x128 .bf16)
    (harg8 : arg8.IsWhole) (x1 : Vec F S1024x128 .i32) (xs0 : Vec F S8x64x128 .i32) (xs1 : Vec F S8x64x2x128 .bf16) :
    kernelRun0_C.sl.HS2_64 c i arg3 harg3 arg7 harg7 arg8 harg8 x1 xs0 xs1
      = wPieces i arg3 harg3 arg7 arg8 x1 (harg7.unread xs0) (harg8.unread xs1) 64 le_rfl := by
  sl_kernel_rfl

set_option Elab.async false in
/-- The stores of weights at the first point of a block of columns are `wPieces`, over the zeros and the scales just stored. -/
theorem HS2_A_eq (c : Dev nD) (i : grid0.Coords) (arg3 : Memref sig .tc .vmem S1024x128 .i32) (harg3 : arg3.IsWhole)
    (arg4 : Memref sig .tc .vmem S64x128 .i32) (harg4 : arg4.IsWhole) (arg5 : Memref sig .tc .vmem S64x1024 .bf16)
    (harg5 : arg5.IsWhole) (arg7 : Memref sig .tc .vmem S8x64x128 .i32) (arg8 : Memref sig .tc .vmem S8x64x2x128 .bf16)
    (x1 : Vec F S1024x128 .i32) (x2 : Vec F S64x128 .i32) (x3 : Vec F S64x1024 .bf16) :
    kernelRun0_A.sl.HS2_64 c i arg3 harg3 arg4 harg4 arg5 harg5 arg7 arg8 x1 x2 x3
      = wPieces i arg3 harg3 arg7 arg8 x1
          (arg7.view.writes (Elt F) arg7.view.junk (kernelRun0_A.sl.HS0_64 c arg4 harg4 x2))
          (arg8.view.writes (Elt F) arg8.view.junk (kernelRun0_A.sl.HS1_64 c arg5 harg5 x3)) 64 le_rfl := by
  sl_kernel_rfl

/-! ## The lane permutation -/

/-- The number of its lane, at each lane. -/
def laneV : IVec S8x128 32 := iota .tc S8x128 32 [1] iota_S8x128_d1_w32

/-- Floored division of a vector by a scalar, as the kernel spells it. -/
def divV (x : IVec S8x128 32) (d : BitVec 32) : IVec S8x128 32 :=
  select (andi (cmpi .ne
      (subi (extui 32 (cmpi .sgt x (broadcast S8x128 0#32)) natLt_1_32) (extui 32 (cmpi .slt x (broadcast S8x128 0#32)) natLt_1_32))
      (broadcast S8x128 (Scalar.subi (Scalar.extui (Scalar.cmpi .sgt d 0#32)) (Scalar.extui (Scalar.cmpi .slt d 0#32)))))
      (cmpi .ne (remsi x (broadcast S8x128 d)) (broadcast S8x128 0#32)))
    (subi (divsi x (broadcast S8x128 d)) (broadcast S8x128 1#32)) (divsi x (broadcast S8x128 d))

/-- Floored remainder of a vector by a scalar, as the kernel spells it. -/
def modV (x : IVec S8x128 32) (d : BitVec 32) : IVec S8x128 32 :=
  select (andi (xori (cmpi .slt (remsi x (broadcast S8x128 d)) (broadcast S8x128 0#32))
        (broadcastTo S8x128 (broadcast S8x128 (Scalar.cmpi .slt d 0#32)) broadcasts_S8x128_S8x128))
      (cmpi .ne (remsi x (broadcast S8x128 d)) (broadcast S8x128 0#32)))
    (addi (remsi x (broadcast S8x128 d)) (broadcast S8x128 d)) (remsi x (broadcast S8x128 d))

/-- The lanes a gather of sixteen rows reads, from those of eight. -/
def gatherIx (idx : IVec S8x128 32) : IVec S16x128 32 :=
  let cc : IVec S16x128 32 := concatenate S16x128 0 [⟨S8x128, idx⟩, ⟨S8x128, idx⟩] concatenates_S8x128_S8x128_S16x128_d0
  shapeCast S16x128 (shapeCast S16x128x1 (select (cmpi .slt cc (broadcast S16x128 0#32))
    (addi cc (broadcast S16x128 128#32)) cc) shapeCasts_S16x128_S16x128x1) shapeCasts_S16x128x1_S16x128

/-- The gather along the lanes, taken in 32 bits. -/
def gatherV (t : FVec F S16x128 .bf16) (idx : IVec S8x128 32) : FVec F S16x128 .bf16 :=
  truncf .bf16 (dynamicGather 1 (extf .f32 t bitsLt_bf16_f32) (gatherIx idx)) bitsLt_bf16_f32

/-- One step of the exchange between tiles: where the lane's block has the bit, the tile `bit` further on. -/
def stepV (bit : ℕ) (t : ℕ → FVec F S8x128 .bf16) (k : ℕ) : FVec F S8x128 .bf16 :=
  select (cmpi .ne (andi (divV laneV 16#32) (broadcast S8x128 (BitVec.ofNat 32 bit))) (broadcast S8x128 0#32))
    (t ((k + bit) % 8)) (t k)

/-- The exchange between the eight tiles: three steps. -/
def barrelV (t : ℕ → FVec F S8x128 .bf16) : ℕ → FVec F S8x128 .bf16 := stepV 4 (stepV 2 (stepV 1 t))

/-- The lanes tile `b` is gathered at before the exchange. -/
def deintIx (b : ℕ) : IVec S8x128 32 :=
  let src := andi (subi laneV (broadcast S8x128 (BitVec.ofNat 32 (16 * b)))) (broadcast S8x128 127#32)
  addi (muli (broadcast S8x128 8#32) (modV src 16#32)) (divV src 16#32)

/-- Rotation of the lanes by `n`; no operation for `n = 0`. -/
def rotV (n : ℕ) (t : FVec F S8x128 .bf16) : FVec F S8x128 .bf16 :=
  if n = 0 then t else dynamicRotate 1 (BitVec.ofNat 32 n) none t rotates_S8x128_d1

/-- Columns `8·lane + p` of eight tiles, at rows of parity `h`. -/
def deintV (h : Fin 2) (tiles : ℕ → FVec F S16x128 .bf16) (p : ℕ) : FVec F S8x128 .bf16 :=
  rotV ((128 - 16 * p) % 128) (barrelV (fun b => rowsOfParity h S8x128 (gatherV (tiles b) (deintIx b)) bitcasts_S16x128_w16_S8x128_w32)
    ((8 - p) % 8))

/-- The scales stored at one parity of the rows: each twice, as a pair. -/
def sPair (y : FVec F S8x128 .bf16) : FVec F S1x8x2x128 .bf16 :=
  interleaveRows S1x8x2x128
    (shapeCast S1x8x1x128 (shapeCast S1x8x128 y shapeCasts_S8x128_S1x8x128) shapeCasts_S1x8x128_S1x8x1x128)
    (shapeCast S1x8x1x128 (shapeCast S1x8x128 y shapeCasts_S8x128_S1x8x128) shapeCasts_S1x8x128_S1x8x1x128)
    bitcasts_S1x8x2x128_w16_S1x8x1x128_w32

/-- Tile `b` of the scales' rows `16R …` lies inside the block of scales. -/
theorem inb_sTile (R b : ℕ) (hR : R < 4) (hb : b < 8) :
    ∀ a, (![16 * R, 128 * b] : Fin 2 → ℕ) a + S16x128.size a ≤ S64x1024.size a := by
  intro a; fin_cases a <;> simp [S16x128, S64x1024] <;> omega

/-- The load of tile `b` of the scales' rows `16R …`. -/
def sTile (arg5 : Memref sig .tc .vmem S64x1024 .bf16) (harg5 : arg5.IsWhole) (x3 : Vec F S64x1024 .bf16)
    (R : ℕ) (hR : R < 4) (b : ℕ) : FVec F S16x128 .bf16 :=
  View.readAt (Elt F) arg5.view (Rect.unit (s := S64x1024) ![16 * R, 128 * (b % 8)] S16x128.size
    (inb_sTile R (b % 8) hR (Nat.mod_lt _ (by decide)))).toLoadRect (harg5.unread x3)

/-- The strided store of scales of field `p`, rows `16R + h`, `16R + h + 2`, …, lies inside the scratch. -/
theorem inb_sPiece (p R h : ℕ) (hp : p < 8) (hR : R < 4) (hh : h < 2) :
    ∀ a, S1x8x2x128.size a = 0 ∨
      (![p, 16 * R + h, 0, 0] : Fin 4 → ℕ) a + (![1, 2, 1, 1] : Fin 4 → ℕ) a * (S1x8x2x128.size a - 1) < S8x64x2x128.size a := by
  intro a; right; fin_cases a <;> simp [S1x8x2x128, S8x64x2x128] <;> omega

/-- The stores of the scales, last first: four rounds of sixteen rows, eight fields, the two parities of the rows. -/
def sPieces (arg5 : Memref sig .tc .vmem S64x1024 .bf16) (harg5 : arg5.IsWhole) (x3 : Vec F S64x1024 .bf16) :
    (n : ℕ) → n ≤ 64 → List (View.Piece (Elt F) S8x64x2x128 .bf16)
  | 0, _ => []
  | n + 1, h =>
    ⟨{ off := ![n % 16 / 2, 16 * (n / 16) + n % 2, 0, 0], size := S1x8x2x128.size, stride := ![1, 2, 1, 1],
       inb := inb_sPiece (n % 16 / 2) (n / 16) (n % 2) (by omega) (by omega) (by omega), stride_pos := spos_1_2_1_1 },
      sPair (deintV ⟨n % 2, Nat.mod_lt _ (by decide)⟩ (sTile arg5 harg5 x3 (n / 16) (by omega)) (n % 16 / 2))⟩
      :: sPieces arg5 harg5 x3 n (Nat.le_of_succ_le h)

set_option Elab.async false in
/-- The stores the first point of a block of columns makes into the scales' scratch are `sPieces`. -/
theorem HS1_eq (c : Dev nD) (arg5 : Memref sig .tc .vmem S64x1024 .bf16) (harg5 : arg5.IsWhole) (x3 : Vec F S64x1024 .bf16) :
    kernelRun0_A.sl.HS1_64 c arg5 harg5 x3 = sPieces arg5 harg5 x3 64 le_rfl := by
  sl_kernel_rfl

/-! ## The output -/

/-- The lanes output tile `b` is gathered at after the exchange. -/
def interIx (b : ℕ) : IVec S8x128 32 :=
  addi (muli (broadcast S8x128 16#32) (andi (addi (modV laneV 8#32) (broadcast S8x128 (BitVec.ofNat 32 b))) (broadcast S8x128 7#32)))
    (divV laneV 8#32)

/-- Tile `b` of the output's rows, from the eight tiles of the accumulator's. -/
def interV (acc : ℕ → FVec F S16x128 .f32) (b : ℕ) : FVec F S16x128 .bf16 :=
  gatherV (interleaveRows S16x128
    (barrelV (fun p => rotV (16 * (p % 8)) (rowsOfParity 0 S8x128 (truncf .bf16 (acc p) bitsLt_bf16_f32) bitcasts_S16x128_w16_S8x128_w32)) ((8 - b) % 8))
    (barrelV (fun p => rotV (16 * (p % 8)) (rowsOfParity 1 S8x128 (truncf .bf16 (acc p) bitsLt_bf16_f32) bitcasts_S16x128_w16_S8x128_w32)) ((8 - b) % 8))
    bitcasts_S16x128_w16_S8x128_w32) (interIx b)

/-- Tile `b` of rows `16r …` lies inside a block of the output and of the accumulator. -/
theorem inb_oTile (r b : ℕ) (hr : r < 16) (hb : b < 8) :
    ∀ a, (![16 * r, 128 * b] : Fin 2 → ℕ) a + S16x128.size a ≤ S256x1024.size a := by
  intro a; fin_cases a <;> simp [S16x128, S256x1024] <;> omega

/-- The load of tile `p` of the accumulator's rows `16r …`, after the stores `L` into it. -/
def accTile (arg10 : Memref sig .tc .vmem S256x1024 .f32) (L : List (View.Piece (Elt F) S256x1024 .f32)) (r : ℕ) (hr : r < 16)
    (p : ℕ) : FVec F S16x128 .f32 :=
  arg10.view.readCov L (Rect.unit (s := S256x1024) ![16 * r, 128 * (p % 8)] S16x128.size
    (inb_oTile r (p % 8) hr (Nat.mod_lt _ (by decide)))).toLoadRect

/-- The stores of the output, last first: sixteen tiles of rows, each at eight tiles of columns. -/
def oPieces (arg10 : Memref sig .tc .vmem S256x1024 .f32) (L : List (View.Piece (Elt F) S256x1024 .f32)) :
    (n : ℕ) → n ≤ 128 → List (View.Piece (Elt F) S256x1024 .bf16)
  | 0, _ => []
  | n + 1, h =>
    ⟨Rect.unit ![16 * (n / 8), 128 * (n % 8)] S16x128.size (inb_oTile (n / 8) (n % 8) (by omega) (by omega)),
      interV (accTile arg10 L (n / 8) (by omega)) (n % 8)⟩
      :: oPieces arg10 L n (Nat.le_of_succ_le h)

set_option Elab.async false in
/-- The stores into the output at the last point of a block of columns are `oPieces`, over the accumulator just stored. -/
theorem L4_eq (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole)
    (hc0 : ¬cond0_0 i) (hc1 : ¬cond0_1 i) (hc2 : cond0_2 i) (hc3 : cond0_3 i)
    (x0 : Vec F S256x8192 .bf16) (x1 : Vec F S1024x128 .i32) (x2 : Vec F S64x128 .i32) (x3 : Vec F S64x1024 .bf16)
    (xs0 : Vec F S8x64x128 .i32) (xs1 : Vec F S8x64x2x128 .bf16) (xs3 : Vec F S256x1024 .f32) :
    (kernelRun0_C c i arg2 harg2 arg3 harg3 arg4 harg4 arg5 harg5 arg6 harg6 arg7 harg7 arg8 harg8 arg9 harg9 arg10 harg10
        hc0 hc1 hc2 hc3 x0 x1 x2 x3 xs0 xs1 xs3).1
      = oPieces arg10 (kernelRun0_C.sl.HS3_1 c i arg2 harg2 arg3 harg3 arg7 harg7 arg8 harg8 arg9 arg10 harg10 x0 x1 xs0 xs1 xs3)
          128 le_rfl := by
  sl_kernel_rfl

end Cert.KernelIdeal.Value
-- ==== Proof.Value.Lane.lean ====
module

public import proofs.«01_k».proof.Proof.Value.Payload
public import Idealize.ShloMosaic.Lib.ValueIdxCore
public import Idealize.ShloMosaic.Lib.KernelVsHost
public import Idealize.ShloMosaic.Lib.Pipeline.Value

@[expose] public section

set_option maxRecDepth 16384

noncomputable section

/-! The lane permutations of the kernel, read at an index: which tile and which lane an element comes from. -/

namespace Cert.KernelIdeal.Value

open Idealize.ShloMosaic Idealize.ShloMosaic.TcCoe Idealize.ShloMosaic.Tactic
open Cert.KernelIdeal.Gen Idealize.ShloMosaic.ValueIdx

variable {F : FTy → Type} [FloatOps F]

/-- Floored division of one word, as the kernel spells it. -/
def divS (x d : BitVec 32) : BitVec 32 :=
  Scalar.select (Scalar.andi (Scalar.cmpi .ne
      (Scalar.subi (Scalar.extui (Scalar.cmpi .sgt x 0#32)) (Scalar.extui (Scalar.cmpi .slt x 0#32)))
      (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- Floored remainder of one word, as the kernel spells it. -/
def modS (x d : BitVec 32) : BitVec 32 :=
  Scalar.select (Scalar.andi (Scalar.xori (Scalar.cmpi .slt (Scalar.remsi x d) 0#32) (Scalar.cmpi .slt d 0#32))
      (Scalar.cmpi .ne (Scalar.remsi x d) 0#32))
    (Scalar.addi (Scalar.remsi x d) d) (Scalar.remsi x d)

/-- The vector's floored division is the word's at every lane. -/
theorem divV_apply (x : IVec S8x128 32) (d : BitVec 32) (j : S8x128.Idx) : divV x d j = divS (x j) d := rfl
/-- The vector's floored remainder is the word's at every lane. -/
theorem modV_apply (x : IVec S8x128 32) (d : BitVec 32) (j : S8x128.Idx) : modV x d j = modS (x j) d := rfl

/-- The vector of lane numbers holds the lane's number at every lane. -/
theorem laneV_apply (j : S8x128.Idx) : laneV j = BitVec.ofNat 32 (j 1).val := iota_single_apply .tc S8x128 32 1 _ j

/-- The word of the lane before the exchange, at a lane. -/
def deintW (b : ℕ) (l : ℕ) : BitVec 32 :=
  let src := Scalar.andi (Scalar.subi (BitVec.ofNat 32 l) (BitVec.ofNat 32 (16 * b))) 127#32
  Scalar.addi (Scalar.muli 8#32 (modS src 16#32)) (divS src 16#32)

/-- The lanes a tile is gathered at before the exchange, at one lane. -/
theorem deintIx_apply (b : ℕ) (j : S8x128.Idx) : deintIx b j = deintW b (j 1).val := by
  unfold deintIx deintW; dsimp only
  show Scalar.addi (Scalar.muli 8#32 (modV _ 16#32 j)) (divV _ 16#32 j) = _
  rw [modV_apply, divV_apply]
  show Scalar.addi (Scalar.muli 8#32 (modS (Scalar.andi (Scalar.subi (laneV j) _) _) 16#32)) (divS (Scalar.andi (Scalar.subi (laneV j) _) _) 16#32) = _
  rw [laneV_apply]; rfl

/-- The word of the lane after the exchange, at a lane. -/
def interW (b : ℕ) (l : ℕ) : BitVec 32 :=
  Scalar.addi (Scalar.muli 16#32 (Scalar.andi (Scalar.addi (modS (BitVec.ofNat 32 l) 8#32) (BitVec.ofNat 32 b)) 7#32))
    (divS (BitVec.ofNat 32 l) 8#32)

/-- The lanes a tile is gathered at after the exchange, at one lane. -/
theorem interIx_apply (b : ℕ) (j : S8x128.Idx) : interIx b j = interW b (j 1).val := by
  unfold interIx interW
  show Scalar.addi (Scalar.muli 16#32 (Scalar.andi (Scalar.addi (modV laneV 8#32 j) _) _)) (divV laneV 8#32 j) = _
  rw [modV_apply, divV_apply, laneV_apply]; rfl

/-- A lane index as the gather reads it: a negative one from the end, then around the lanes. -/
def wrapS (w : BitVec 32) : ℕ := (Scalar.select (Scalar.cmpi .slt w 0#32) (Scalar.addi w 128#32) w).toNat % 128

/-- A lane the gather reads is one of the 128. -/
theorem wrapS_lt (w : BitVec 32) : wrapS w < 128 := Nat.mod_lt _ (by decide)

/-- A tile of a family at an index, from equal numbers and coordinates. -/
theorem tile_congr {α : Type} {m n : ℕ} (acc : ℕ → (⟨2, ![m, n]⟩ : Shape).Idx → α) {p p' : ℕ} {a a' : Fin m} {l l' : Fin n}
    (hp : p = p') (ha : a.val = a'.val) (hl : l.val = l'.val) : acc p (ix2 a l) = acc p' (ix2 a' l') := by
  obtain rfl := hp; obtain rfl := Fin.ext ha; obtain rfl := Fin.ext hl; rfl

/-- The gather's index at a row and a lane: the lane's word, a negative one counted from the end. -/
theorem gatherIx_apply (f : ℕ → BitVec 32) (idx : IVec S8x128 32) (hf : ∀ j, idx j = f (j 1).val) (a : Fin 16) (l : Fin 128) :
    gatherIx idx (ix2 a l)
      = Scalar.select (Scalar.cmpi .slt (f l.val) 0#32) (Scalar.addi (f l.val) 128#32) (f l.val) := by
  have hc : concatenate S16x128 0 [⟨S8x128, idx⟩, ⟨S8x128, idx⟩] concatenates_S8x128_S8x128_S16x128_d0 (ix2 a l) = f l.val := by
    by_cases ha : a.val < 8
    · rw [concatenate_pair_apply_left (t := S16x128) (s₁ := S8x128) (s₂ := S8x128) 0 idx idx _ (ix2 a l) rfl (ix2 ⟨a.val, ha⟩ l)
        (by intro b; fin_cases b <;> rfl), hf]
    · rw [concatenate_pair_apply_right (t := S16x128) (s₁ := S8x128) (s₂ := S8x128) 0 idx idx _ (ix2 a l) rfl rfl
        (ix2 ⟨a.val - 8, by omega⟩ l) (by intro b hb; fin_cases b; exacts [absurd rfl hb, rfl])
        (by show a.val - 8 + 8 = a.val; omega), hf]
  unfold gatherIx
  show shapeCast S16x128 (shapeCast S16x128x1 _ _) _ _ = _
  rw [shapeCast_shapeCast]
  show Scalar.select (Scalar.cmpi .slt (concatenate _ _ _ _ (ix2 a l)) _) (Scalar.addi (concatenate _ _ _ _ (ix2 a l)) _) (concatenate _ _ _ _ (ix2 a l)) = _
  rw [hc]; rfl

/-- The gather at an index reads the same row, at the lane the index vector names. -/
theorem gatherV_apply (t : FVec Ideal S16x128 .bf16) (f : ℕ → BitVec 32) (idx : IVec S8x128 32) (hf : ∀ j, idx j = f (j 1).val)
    (a : Fin 16) (l : Fin 128) : gatherV t idx (ix2 a l) = t (ix2 a ⟨wrapS (f l.val), wrapS_lt _⟩) := by
  unfold gatherV
  show dynamicGather 1 t (gatherIx idx) (ix2 a l) = _
  unfold dynamicGather
  refine congrArg t (funext fun b => ?_)
  fin_cases b
  · rfl
  · refine Fin.ext ?_
    show (gatherIx idx (ix2 a l)).toNat % 128 = _
    rw [gatherIx_apply f idx hf]; rfl

/-- The exchange at a lane of block `l / 16` reads the tile that many further on. -/
theorem barrelV_apply (t : ℕ → FVec F S8x128 .bf16) (k : ℕ) (hk : k < 8) (r : Fin 8) (l : Fin 128) :
    barrelV t k (ix2 r l) = t ((k + l.val / 16) % 8) (ix2 r l) := by
  have hstep : ∀ (bit : ℕ) (t : ℕ → FVec F S8x128 .bf16) (k : ℕ), stepV bit t k (ix2 r l)
      = if Scalar.cmpi .ne (Scalar.andi (divS (BitVec.ofNat 32 l.val) 16#32) (BitVec.ofNat 32 bit)) 0#32 = 1#1
        then t ((k + bit) % 8) (ix2 r l) else t k (ix2 r l) := by
    intro bit t k
    unfold stepV
    show Scalar.select (Scalar.cmpi .ne (Scalar.andi (divV laneV 16#32 (ix2 r l)) _) _) _ _ = _
    rw [divV_apply, laneV_apply]; rfl
  have hbit : ∀ l : Fin 128, ∀ k : Fin 8,
      (let c := fun bit : ℕ => Scalar.cmpi .ne (Scalar.andi (divS (BitVec.ofNat 32 l.val) 16#32) (BitVec.ofNat 32 bit)) 0#32 = 1#1
       let k1 := if c 4 then (k.val + 4) % 8 else k.val
       let k2 := if c 2 then (k1 + 2) % 8 else k1
       (if c 1 then (k2 + 1) % 8 else k2) = (k.val + l.val / 16) % 8) := by decide +kernel
  have := hbit l ⟨k, hk⟩
  dsimp only at this
  unfold barrelV
  rw [hstep, hstep, hstep, hstep, hstep, hstep, hstep, ← this]
  split_ifs <;> rfl

/-- The rotation at a lane reads the lane `n` before. -/
theorem rotV_apply (n : ℕ) (hn : n < 128) (t : FVec F S8x128 .bf16) (r : Fin 8) (l : Fin 128) :
    rotV n t (ix2 r l) = t (ix2 r ⟨(l.val + 128 - n) % 128, Nat.mod_lt _ (by decide)⟩) := by
  unfold rotV
  by_cases h : n = 0
  · rw [if_pos h]
    exact congrArg (fun l => t (ix2 r l)) (Fin.ext (by show l.val = (l.val + 128 - n) % 128; omega))
  · rw [if_neg h]
    refine dynamicRotate_apply (s := S8x128) 1 _ t _ _ _ fun b => ?_
    fin_cases b
    · rfl
    · have : (BitVec.ofNat 32 n).toNat = n := by simp; omega
      show (l.val + 128 - n) % 128 = (l.val + 128 - (BitVec.ofNat 32 n).toNat % 128) % 128
      rw [this, Nat.mod_eq_of_lt hn]

/-- Rows `2r + h` of a tile. -/
theorem rowsOfParity_ix2 {α : Type} (h : Fin 2) (x : S16x128.Idx → α) (r : Fin 8) (l : Fin 128) :
    rowsOfParity h S8x128 x bitcasts_S16x128_w16_S8x128_w32 (ix2 r l) = x (ix2 ⟨2 * r.val + h.val, by omega⟩ l) := by
  unfold rowsOfParity
  refine congrArg x (funext fun b => ?_)
  fin_cases b <;> rfl

/-- Two vectors interleaved by rows, read at an index. -/
theorem interleaveRows_apply {α : Type} {s t : Shape} (lo hi : t.Idx → α) (h : s.Bitcasts 16 t 32) (i : s.Idx) (j : t.Idx) (r : ℕ)
    (hr : s.row i = r)
    (hj : ∀ b : Fin t.rank, (j b).val = if (b.cast h.1).val + 2 = s.rank then (i (b.cast h.1)).val / 2 else (i (b.cast h.1)).val) :
    interleaveRows s lo hi h i = if r % 2 = 0 then lo j else hi j := by
  subst hr
  unfold interleaveRows
  dsimp only
  have e : (fun b : Fin t.rank => if hb : (b.cast h.1).val + 2 = s.rank then (⟨(i (b.cast h.1)).val / 2, by
          have hs := h.2.2 (b.cast h.1); rw [if_pos hb] at hs
          have hi := (i (b.cast h.1)).isLt
          have e : (b.cast h.1).cast h.1.symm = b := rfl
          rw [e] at hs; omega⟩ : Fin (t.size b))
      else (i (b.cast h.1)).cast (by have hs := h.2.2 (b.cast h.1); rw [if_neg hb] at hs; exact hs)) = j := by
    funext b
    refine Fin.ext ?_
    rw [hj b]
    split_ifs <;> rfl
  rw [← e]

/-- A row of two tiles interleaved by rows. -/
theorem interleaveRows_ix2 {α : Type} (lo hi : S8x128.Idx → α) (a : Fin 16) (l : Fin 128) :
    interleaveRows S16x128 lo hi bitcasts_S16x128_w16_S8x128_w32 (ix2 a l)
      = if a.val % 2 = 0 then lo (ix2 ⟨a.val / 2, by omega⟩ l) else hi (ix2 ⟨a.val / 2, by omega⟩ l) := by
  exact interleaveRows_apply lo hi _ (ix2 a l) (ix2 ⟨a.val / 2, by omega⟩ l) a.val rfl (by intro b; fin_cases b <;> rfl)

/-- The eight tiles parted by column: element `(r, l)` of part `p` at parity `h` is row `2r + h`, column `8l + p`. -/
theorem deintV_apply (h : Fin 2) (tiles : ℕ → FVec Ideal S16x128 .bf16) (p : ℕ) (hp : p < 8) (r : Fin 8) (l : Fin 128) :
    deintV h tiles p (ix2 r l)
      = tiles ((8 * l.val + p) / 128) (ix2 ⟨2 * r.val + h.val, by omega⟩ ⟨(8 * l.val + p) % 128, Nat.mod_lt _ (by decide)⟩) := by
  have key : ∀ (p : Fin 8) (l : Fin 128),
      (let l1 := (l.val + 128 - (128 - 16 * p.val) % 128) % 128
       let b := ((8 - p.val) % 8 + l1 / 16) % 8
       b = (8 * l.val + p.val) / 128 ∧ wrapS (deintW b l1) = (8 * l.val + p.val) % 128) := by decide +kernel
  obtain ⟨k1, k2⟩ := key ⟨p, hp⟩ l
  unfold deintV
  rw [rotV_apply _ (Nat.mod_lt _ (by decide)), barrelV_apply _ _ (Nat.mod_lt _ (by decide)), rowsOfParity_ix2,
    gatherV_apply _ (deintW _) _ (deintIx_apply _)]
  dsimp only at k1 k2
  exact tile_congr tiles k1 rfl k2

/-- The eight tiles joined by column: element `(a, l)` of output tile `b` is row `a`, lane `16b + l / 8` of tile `l % 8`. -/
theorem interV_apply (acc : ℕ → FVec Ideal S16x128 .f32) (b : ℕ) (hb : b < 8) (a : Fin 16) (l : Fin 128) :
    interV acc b (ix2 a l) = acc (l.val % 8) (ix2 a ⟨(16 * b + l.val / 8) % 128, Nat.mod_lt _ (by decide)⟩) := by
  have key : ∀ (b : Fin 8) (l : Fin 128),
      (let l1 := wrapS (interW b.val l.val)
       let p := ((8 - b.val) % 8 + l1 / 16) % 8
       p = l.val % 8 ∧ (l1 + 128 - 16 * (p % 8)) % 128 = (16 * b.val + l.val / 8) % 128) := by decide +kernel
  obtain ⟨k1, k2⟩ := key ⟨b, hb⟩ l
  unfold interV
  rw [gatherV_apply _ (interW b) _ (interIx_apply b), interleaveRows_ix2,
    barrelV_apply _ _ (Nat.mod_lt _ (by decide)), barrelV_apply _ _ (Nat.mod_lt _ (by decide)),
    rotV_apply _ (by omega), rotV_apply _ (by omega), rowsOfParity_ix2, rowsOfParity_ix2]
  dsimp only at k1 k2
  split_ifs with h
  · exact tile_congr acc k1 (by show 2 * (a.val / 2) + 0 = a.val; omega) k2
  · exact tile_congr acc k1 (by show 2 * (a.val / 2) + 1 = a.val; omega) k2

end Cert.KernelIdeal.Value
-- ==== Proof.Value.Scalar.lean ====
module

public import Idealize.ShloMosaic.Lib.Pipeline.Value
public import Idealize.ShloMosaic.Lib.IdealHost
public import Idealize.ShloMosaic.Lib.KernelVsHost

@[expose] public section

noncomputable section

/-! Four-bit fields of words, and what they are as numbers. -/

namespace Cert.KernelIdeal.Value

open Idealize.ShloMosaic

/-- The four bits of a word from bit `s` on, as a number. -/
def field (s : ℕ) (v : BitVec 32) : ℕ := v.toNat / 2 ^ s % 16

/-- A field is less than 16. -/
theorem field_lt (s : ℕ) (v : BitVec 32) : field s v < 16 := Nat.mod_lt _ (by decide)

/-- A bit of a field is a bit of the word. -/
theorem field_testBit (s : ℕ) (v : BitVec 32) (i : ℕ) : (field s v).testBit i = (decide (i < 4) && v.getLsbD (s + i)) := by
  unfold field
  rw [show (16 : ℕ) = 2 ^ 4 from rfl, Nat.testBit_mod_two_pow, Nat.testBit_div_two_pow, BitVec.testBit_toNat, Nat.add_comm i s]

/-- A logical right shift by less than 32 is the bit vector's shift. -/
theorem shrui_eq (v : BitVec 32) (s : ℕ) (hs : s < 32) : IntOp.shrui .vector v (BitVec.ofNat 32 s) = v >>> s := by
  have h : (BitVec.ofNat 32 s).toNat = s := by rw [BitVec.toNat_ofNat]; omega
  unfold IntOp.shrui
  rw [if_pos (by rw [h]; exact hs), BitVec.ushiftRight_eq', h]

/-- A bit of a field in sixteen bits. -/
theorem field_getLsbD (s : ℕ) (v : BitVec 32) (i : ℕ) (hi : i < 16) :
    (BitVec.ofNat 16 (field s v)).getLsbD i = (decide (i < 4) && v.getLsbD (s + i)) := by
  rw [BitVec.getLsbD_ofNat, field_testBit]; simp [hi]

/-- A field over the exponent of `128` in bf16 is the pattern of `128` plus the field. -/
theorem ofBits_field (n : ℕ) (hn : n < 16) :
    Ideal.ofBits .bf16 (0x4300#16 ||| BitVec.ofNat 16 n) = (((128 : ℝ) + (n : ℝ) : ℝ) : EReal) := by
  interval_cases n <;> (simp [Ideal.ofBits, Ideal.ieee, -EReal.coe_mul, -EReal.coe_add] <;> norm_num)

/-- The word of a zero: its field in both halves, over the exponents. -/
def zeroWord (s : ℕ) (v : BitVec 32) : BitVec 32 :=
  let a := IntOp.andi (IntOp.shrui .vector v (BitVec.ofNat 32 s)) 15#32
  IntOp.ori (IntOp.ori a (IntOp.shli .vector a 16#32)) 1124090624#32

/-- Either half of the word of a zero is the field over the exponent. -/
theorem zeroWord_half (s : ℕ) (hs : s < 32) (v : BitVec 32) (h : ℕ) (hh : h < 2) :
    (zeroWord s v).extractLsb' (16 * h) 16 = 0x4300#16 ||| BitVec.ofNat 16 (field s v) := by
  have e : zeroWord s v = (((v >>> s) &&& 15#32) ||| (((v >>> s) &&& 15#32) <<< 16)) ||| 1124090624#32 := by
    unfold zeroWord; dsimp only; rw [shrui_eq v s hs]; rfl
  rw [e]
  apply BitVec.eq_of_getLsbD_eq
  intro i hi
  have hf := field_getLsbD s v i hi
  generalize BitVec.ofNat 16 (field s v) = B at hf ⊢
  clear e
  rw [BitVec.getLsbD_or (x := 0x4300#16), hf]
  clear hf
  interval_cases h <;> interval_cases i <;>
    simp [BitVec.getLsbD_extractLsb', BitVec.getLsbD_or, BitVec.getLsbD_and, BitVec.getLsbD_shiftLeft, BitVec.getLsbD_ushiftRight]

/-- The word of a pair of weights: the fields from bit `s` of its two halves, over the exponents. -/
def pairWord (s : ℕ) (w : BitVec 32) : BitVec 32 :=
  IntOp.ori (IntOp.andi (IntOp.shrui .vector w (BitVec.ofNat 32 s)) 983055#32) 1124090624#32

/-- The low half of the word of a pair is the field of the low half. -/
theorem pairWord_half (s : ℕ) (hs : s ≤ 12) (hi lo : BitVec 16) (h : ℕ) (hh : h < 2) :
    (pairWord s (hi ++ lo)).extractLsb' (16 * h) 16
      = 0x4300#16 ||| BitVec.ofNat 16 (field s ((if h = 0 then lo else hi).setWidth 32)) := by
  have e : pairWord s (hi ++ lo) = (((hi ++ lo) >>> s) &&& 983055#32) ||| 1124090624#32 := by
    unfold pairWord; rw [shrui_eq _ s (by omega)]; rfl
  rw [e]
  apply BitVec.eq_of_getLsbD_eq
  intro i hi'
  rw [BitVec.getLsbD_or (x := 0x4300#16), field_getLsbD s _ i hi', BitVec.getLsbD_extractLsb', BitVec.getLsbD_or, BitVec.getLsbD_and,
    BitVec.getLsbD_ushiftRight, BitVec.getLsbD_append]
  clear e
  interval_cases h <;> interval_cases i <;>
    simp [BitVec.getLsbD_setWidth, show s < 16 by omega, show s + 1 < 16 by omega, show s + 2 < 16 by omega, show s + 3 < 16 by omega,
      show s < 32 by omega, show s + 1 < 32 by omega, show s + 2 < 32 by omega, show s + 3 < 32 by omega,
      show ¬s + 17 < 16 by omega, show ¬s + 18 < 16 by omega, show ¬s + 19 < 16 by omega]

/-- A field of the low half of a word is one of the word. -/
theorem field_low (s : ℕ) (hs : s ≤ 12) (v : BitVec 32) : field s ((v.setWidth 16).setWidth 32) = field s v := by
  refine Nat.eq_of_testBit_eq fun i => ?_
  rw [field_testBit, field_testBit]
  by_cases h : i < 4
  · simp [h, BitVec.getLsbD_setWidth, show s + i < 16 by omega, show s + i < 32 by omega]
  · simp [h]

/-- A field of the high half of a word is one of the word, sixteen bits on. -/
theorem field_high (s : ℕ) (hs : s ≤ 12) (v : BitVec 32) :
    field s (((v >>> 16).setWidth 16).setWidth 32) = field (s + 16) v := by
  refine Nat.eq_of_testBit_eq fun i => ?_
  rw [field_testBit, field_testBit]
  by_cases h : i < 4
  · simp [h, BitVec.getLsbD_setWidth, show s + i < 16 by omega, show s + i < 32 by omega]
    congr 1; omega
  · simp [h]

/-- What a shift and a mask on the host read of a word is the field, as an integer. -/
theorem host_field (s : ℕ) (hs : s ≤ 28) (v : BitVec 32) :
    (IntOp.andi (IntOp.shrsi .host v (BitVec.ofNat 32 s)) 15#32).toInt = (field s v : ℤ) := by
  have h : (BitVec.ofNat 32 s).toNat = s := by rw [BitVec.toNat_ofNat]; omega
  have e : IntOp.andi (IntOp.shrsi .host v (BitVec.ofNat 32 s)) 15#32 = BitVec.ofNat 32 (field s v) := by
    unfold IntOp.shrsi IntOp.andi
    rw [if_pos (by rw [h]; omega), BitVec.sshiftRight_eq', h]
    apply BitVec.eq_of_getLsbD_eq
    intro i hi
    rw [BitVec.getLsbD_ofNat, field_testBit, BitVec.getLsbD_and, BitVec.getLsbD_sshiftRight]
    interval_cases i <;> simp [show s < 32 by omega, show s + 1 < 32 by omega, show s + 2 < 32 by omega, show s + 3 < 32 by omega]
  rw [e]
  have := field_lt s v
  rw [BitVec.toInt_eq_toNat_of_lt (by rw [BitVec.toNat_ofNat]; omega), BitVec.toNat_ofNat]
  norm_cast; omega

end Cert.KernelIdeal.Value
-- ==== Proof.Value.Tiles.lean ====
module

public import proofs.«01_k».proof.Proof.Value.Lane
public import proofs.«01_k».proof.Proof.Value.Scalar
public import Idealize.ShloMosaic.Lib.BitcastPair

@[expose] public section

set_option maxRecDepth 16384

noncomputable section

/-! The vectors the kernel stores, read at an index. -/

namespace Cert.KernelIdeal.Value

open Idealize.ShloMosaic Idealize.ShloMosaic.TcCoe Idealize.ShloMosaic.Tactic
open Cert.KernelIdeal.Gen Idealize.ShloMosaic.ValueIdx

variable {F : FTy → Type} [FloatOps F]

/-- A tile of zero words at an index. -/
theorem zword_apply (p : ℕ) (v : IVec S8x128 32) (u : Fin 1) (a : Fin 8) (l : Fin 128) :
    zword p v (ix3 u a l) = zeroWord (fieldShift p) (v (ix2 a l)) := by
  obtain rfl : u = 0 := Subsingleton.elim _ _
  unfold zword
  rw [shapeCast_apply _ _ _ (ix2 a l) (by rw [Shape.rowMajor_val_two, Shape.rowMajor_val_three]; simp)]
  rfl

/-- One row of zero words as numbers: `128` plus the field. -/
theorem zRowF_apply (z : IVec S1x1x128 32) (n : ℕ) (hn : n < 16) (a l : Fin 128)
    (hz : ∀ h < 2, (z (ix3 0 0 l)).extractLsb' (16 * h) 16 = 0x4300#16 ||| BitVec.ofNat 16 n) :
    zRowF (F := Ideal) z (ix2 a l) = (((128 : ℝ) + (n : ℝ) : ℝ) : EReal) := by
  unfold zRowF
  show Ideal.ofBits .bf16 (bitcast S128x128 16 _ _ (ix2 a l)) = _
  rw [bitcast_32_16]
  rw [broadcastTo_apply _ _ _ (ix2 0 l) (by intro b; fin_cases b <;> rfl), shapeCast_self,
    shapeCast_apply _ _ _ (ix3 0 0 l) (by rw [Shape.rowMajor_val_two, Shape.rowMajor_val_three]; simp)]
  rw [show (S128x128.row (ix2 a l)) = a.val from rfl, hz _ (Nat.mod_lt _ (by decide)), ofBits_field n hn]

/-- A row of one of a pair of scales. -/
theorem sHalf_apply (h : Fin 2) (s : FVec F S1x1x2x128 .bf16) (l : Fin 128) :
    sHalf h s (ix2 0 l) = s (ix4 0 0 h l) := by
  unfold sHalf
  rw [shapeCast_apply _ _ _ (ix3 0 0 l) (by rw [Shape.rowMajor_val_two, Shape.rowMajor_val_three]; simp),
    shapeCast_apply _ _ _ (ix4 0 0 0 l) (by rw [Shape.rowMajor_val_four, Shape.rowMajor_val_three]; simp)]
  unfold rowsOfParity
  refine congrArg s (funext fun b => Fin.ext ?_)
  fin_cases b <;> simp

/-- A pair of rows of scales at every pair of rows. -/
theorem sRowF_apply (s : FVec F S1x1x2x128 .bf16) (a l : Fin 128) :
    sRowF s (ix2 a l) = s (ix4 0 0 ⟨a.val % 2, Nat.mod_lt _ (by decide)⟩ l) := by
  unfold sRowF
  rw [shapeCast_apply _ _ _ (ix3 (⟨a.val / 2, by omega⟩ : Fin 64) ⟨a.val % 2, Nat.mod_lt _ (by decide)⟩ l)
      (by rw [Shape.rowMajor_val_two, Shape.rowMajor_val_three]
          show (a.val / 2 * 2 + a.val % 2) * 128 + l.val = a.val * 128 + l.val; omega),
    broadcastTo_apply _ _ _ (ix3 0 ⟨a.val % 2, Nat.mod_lt _ (by decide)⟩ l) (by intro b; fin_cases b <;> rfl), shapeCast_self,
    shapeCast_apply _ _ _ (ix2 ⟨a.val % 2, Nat.mod_lt _ (by decide)⟩ l)
      (by rw [Shape.rowMajor_val_two, Shape.rowMajor_val_three]; simp),
    interleaveRows_apply _ _ _ _ (ix2 0 l) (a.val % 2) rfl (by intro b; fin_cases b <;> simp)]
  rw [sHalf_apply, sHalf_apply]
  split_ifs with h
  · exact congrArg (fun h : Fin 2 => s (ix4 0 0 h l)) (Fin.ext (by show 0 = a.val % 2; omega))
  · exact congrArg (fun h : Fin 2 => s (ix4 0 0 h l)) (Fin.ext (by show 1 = a.val % 2; omega))

/-- A pair of halves of words. -/
theorem halfWords_apply (j : ℕ) (v : IVec S128x128 32) (r : Fin 64) (l : Fin 128) :
    halfWords j v (ix2 r l)
      = (if j < 4 then (v (ix2 ⟨2 * r.val + 1, by omega⟩ l)).setWidth 16 else (v (ix2 ⟨2 * r.val + 1, by omega⟩ l) >>> 16).setWidth 16)
        ++ (if j < 4 then (v (ix2 ⟨2 * r.val, by omega⟩ l)).setWidth 16 else (v (ix2 ⟨2 * r.val, by omega⟩ l) >>> 16).setWidth 16) := by
  unfold halfWords
  rw [bitcast_16_32]
  have e : ∀ (p : ℕ) (hp) (hp' : p < 128), Shape.Bitcasts.srcIdx bitcasts_S128x128_w16_S64x128_w32 (ix2 r l) p hp
      = ix2 ⟨p, hp'⟩ l := by
    intro p hp hp'; funext b; fin_cases b <;> rfl
  have er : S64x128.row (ix2 r l) = r.val := rfl
  rw [e _ _ (by rw [er]; omega), e _ _ (by rw [er]; omega)]
  have sh : ∀ x : BitVec 32, IntOp.shrui .vector x 16#32 = x >>> 16 := fun x => shrui_eq x 16 (by decide)
  split_ifs
  · rfl
  · exact congrArg₂ (fun x y : BitVec 32 => (x.setWidth 16 ++ y.setWidth 16 : BitVec 32)) (sh _) (sh _)

/-- A tile of weights at an index. -/
theorem wTile_apply (j : ℕ) (hj : j < 8) (v : IVec S128x128 32) (z : IVec S1x1x128 32) (s : FVec Ideal S1x1x2x128 .bf16)
    (n : ℕ) (hn : n < 16) (a l : Fin 128)
    (hz : ∀ h < 2, (z (ix3 0 0 l)).extractLsb' (16 * h) 16 = 0x4300#16 ||| BitVec.ofNat 16 n) :
    (wTile j v z s (ix2 a l) : EReal)
      = ((((field (4 * j) (v (ix2 a l)) : ℝ) - (n : ℝ) : ℝ)) : EReal)
        * (s (ix4 0 0 ⟨a.val % 2, Nat.mod_lt _ (by decide)⟩ l) : EReal) := by
  unfold wTile
  rw [shapeCast_self]
  show (Ideal.ofBits .bf16 (bitcast S128x128 16 (qbits j v) _ (ix2 a l)) - zRowF (F := Ideal) z (ix2 a l) : EReal) * sRowF s (ix2 a l) = _
  rw [sRowF_apply, zRowF_apply z n hn a l hz, bitcast_32_16]
  have e : ∀ hp, Shape.Bitcasts.srcIdx bitcasts_S64x128_w32_S128x128_w16 (ix2 a l) (S128x128.row (ix2 a l) / 2) hp
      = ix2 ⟨a.val / 2, by omega⟩ l := by
    intro hp; funext b; fin_cases b <;> rfl
  rw [e, show S128x128.row (ix2 a l) = a.val from rfl]
  have eq : qbits j v (ix2 ⟨a.val / 2, by omega⟩ l) = pairWord (4 * (j % 4)) (halfWords j v (ix2 ⟨a.val / 2, by omega⟩ l)) := rfl
  rw [eq, halfWords_apply, pairWord_half _ (by omega) _ _ _ (Nat.mod_lt _ (by decide)), ofBits_field _ (field_lt _ _)]
  have ef : field (4 * (j % 4)) (BitVec.setWidth 32 (if a.val % 2 = 0 then
        (if j < 4 then (v (ix2 ⟨2 * (a.val / 2), by omega⟩ l)).setWidth 16 else (v (ix2 ⟨2 * (a.val / 2), by omega⟩ l) >>> 16).setWidth 16)
      else (if j < 4 then (v (ix2 ⟨2 * (a.val / 2) + 1, by omega⟩ l)).setWidth 16 else (v (ix2 ⟨2 * (a.val / 2) + 1, by omega⟩ l) >>> 16).setWidth 16)))
      = field (4 * j) (v (ix2 a l)) := by
    have h1 : ∀ x : BitVec 32, field (4 * (j % 4)) (BitVec.setWidth 32 (if j < 4 then x.setWidth 16 else (x >>> 16).setWidth 16)) = field (4 * j) x := by
      intro x
      split_ifs with h
      · rw [field_low _ (by omega)]; congr 1; omega
      · rw [field_high _ (by omega)]; congr 1; omega
    by_cases h : a.val % 2 = 0
    · rw [if_pos h, h1]
      exact congrArg (fun a => field (4 * j) (v (ix2 a l))) (Fin.ext (by show 2 * (a.val / 2) = a.val; omega))
    · rw [if_neg h, h1]
      exact congrArg (fun a => field (4 * j) (v (ix2 a l))) (Fin.ext (by show 2 * (a.val / 2) + 1 = a.val; omega))
  rw [ef, ← EReal.coe_sub]
  congr 2
  ring

/-- A pair of scales at an index: the same row at either half. -/
theorem sPair_apply (y : FVec F S8x128 .bf16) (u : Fin 1) (a : Fin 8) (h : Fin 2) (l : Fin 128) :
    sPair y (ix4 u a h l) = y (ix2 a l) := by
  obtain rfl : u = 0 := Subsingleton.elim _ _
  unfold sPair
  rw [interleaveRows_apply _ _ _ _ (ix4 0 a 0 l) h.val rfl (by intro b; fin_cases b <;> simp; omega), ite_self,
    shapeCast_apply _ _ _ (ix3 0 a l) (by rw [Shape.rowMajor_val_four, Shape.rowMajor_val_three]; simp),
    shapeCast_apply _ _ _ (ix2 a l) (by rw [Shape.rowMajor_val_two, Shape.rowMajor_val_three]; simp)]

end Cert.KernelIdeal.Value
-- ==== Proof.Value.Contents.lean ====
module

public import proofs.«01_k».proof.Proof.Value.Tiles
public import Idealize.ShloMosaic.Lib.Pipeline.ReadBack
public import Idealize.ShloMosaic.Lib.Pipeline.ValueKit.Tiles

@[expose] public section

set_option maxRecDepth 16384

noncomputable section

/-! What the kernel's stores leave in each buffer, as a function of the index. -/

namespace Cert.KernelIdeal.Value

open Idealize.ShloMosaic Idealize.ShloMosaic.TcCoe Idealize.ShloMosaic.Tactic
open Cert.KernelIdeal.Gen Idealize.ShloMosaic.ValueIdx

variable {F : FTy → Type} [FloatOps F]

/-- A load of a unit-stride rectangle, at an index. -/
theorem readAt_unit_apply {sp : Space} {s : Shape} {e : EltTy} (v : View sig .tc sp s e) (f : v.ty.Contents (Elt F))
    (off size : Fin s.rank → ℕ) (inb) (x : (Rect.unit off size inb).shape.Idx) (G : s.Idx → Elt F e)
    (hG : v.read (Elt F) f = G) (y : s.Idx) (hy : ∀ a, (y a).val = off a + (x a).val) :
    View.readAt (Elt F) v (Rect.unit off size inb).toLoadRect f x = G y := by
  rw [View.readAt_eq_ld, hG]
  exact View.ld_unit_apply_of G off size inb x y hy

/-- The zero words: field `p` of word column `l`, at row `r`. -/
def zG (x2 : Vec F S64x128 .i32) (y : S8x64x128.Idx) : BitVec 32 := zeroWord (fieldShift (y 0).val) (x2 (ix2 (y 1) (y 2)))

/-- Each store of zero words is a block of them. -/
theorem zPieces_of (arg4 : Memref sig .tc .vmem S64x128 .i32) (harg4 : arg4.IsWhole) (x2 : Vec F S64x128 .i32) :
    ∀ (n : ℕ) (h : n ≤ 64), View.PiecesOf (zG x2) (zPieces arg4 harg4 x2 n h)
  | 0, _ => trivial
  | n + 1, h => by
    refine ⟨fun x => ?_, zPieces_of arg4 harg4 x2 n _⟩
    obtain ⟨u, a, l, rfl⟩ : ∃ (u : Fin 1) (a : Fin 8) (l : Fin 128), x = ix3 u a l := ⟨x 0, x 1, x 2, eq_ix3 x⟩
    refine (zword_apply _ _ u a l).trans ?_
    have e : zTile arg4 harg4 x2 (n / 8) (by omega) (ix2 a l) = x2 (ix2 ⟨8 * (n / 8) + a.val, by omega⟩ l) :=
      readAt_unit_apply _ _ _ _ _ _ x2 (harg4.read_unread _) _ (by intro b; fin_cases b <;> simp)
    rw [e]
    unfold zG
    congr 2
    · show n % 8 = n % 8 + 1 * u.val; omega
    · funext b; fin_cases b
      · exact Fin.ext (by show 8 * (n / 8) + a.val = 8 * (n / 8) + 1 * a.val; omega)
      · exact Fin.ext (by show l.val = 0 + 1 * l.val; omega)

/-- The scales: column `8·l + p` at row `r`, in both halves. -/
def sG (x3 : Vec F S64x1024 .bf16) (y : S8x64x2x128.Idx) : F .bf16 :=
  x3 (ix2 (y 1) ⟨8 * (y 3).val + (y 0).val, by have := (y 3).isLt; have := (y 0).isLt; simp [S8x64x2x128] at *; omega⟩)

/-- Each store of scales is a block of them. -/
theorem sPieces_of (arg5 : Memref sig .tc .vmem S64x1024 .bf16) (harg5 : arg5.IsWhole) (x3 : Vec Ideal S64x1024 .bf16) :
    ∀ (n : ℕ) (h : n ≤ 64), View.PiecesOf (sG x3) (sPieces arg5 harg5 x3 n h)
  | 0, _ => trivial
  | n + 1, h => by
    refine ⟨fun x => ?_, sPieces_of arg5 harg5 x3 n _⟩
    obtain ⟨u, a, k, l, rfl⟩ : ∃ (u : Fin 1) (a : Fin 8) (k : Fin 2) (l : Fin 128), x = ix4 u a k l :=
      ⟨x 0, x 1, x 2, x 3, eq_ix4 x⟩
    refine (sPair_apply _ u a k l).trans ?_
    rw [deintV_apply _ _ _ (by omega)]
    refine (readAt_unit_apply _ _ _ _ _ _ x3 (harg5.read_unread _)
      (ix2 ⟨16 * (n / 16) + (2 * a.val + n % 2), by omega⟩ ⟨8 * l.val + n % 16 / 2, by omega⟩)
      (by intro b; fin_cases b
          · simp
          · show 8 * l.val + n % 16 / 2 = 128 * ((8 * l.val + n % 16 / 2) / 128 % 8) + (8 * l.val + n % 16 / 2) % 128; omega)).trans ?_
    unfold sG
    congr 1
    funext b; fin_cases b
    · exact Fin.ext (by show 16 * (n / 16) + (2 * a.val + n % 2) = 16 * (n / 16) + n % 2 + 2 * a.val; omega)
    · exact Fin.ext (by show 8 * l.val + n % 16 / 2 = 8 * (0 + 1 * l.val) + (n % 16 / 2 + 1 * u.val); omega)

/-- A field starts inside its word. -/
theorem fieldShift_lt (p : ℕ) (hp : p < 8) : fieldShift p < 32 := by unfold fieldShift; omega

/-- Group `g` of block `k` of the contraction is group `8k + g` of the matrix. -/
theorem gRow_eq (i : grid0.Coords) (g : ℕ) (hg : g < 8) : gRow i g = 8 * (i 1).val + g := by
  have key : ∀ a g : Fin 8, (Scalar.indexCast (Scalar.addi (Scalar.muli (BitVec.ofNat 32 a.val) 8#32) (BitVec.ofNat 32 g.val)) : BitVec 32).toNat
      = 8 * a.val + g.val := by decide
  exact key (i 1) ⟨g, hg⟩

/-- The weights of a block: `(q - z) · s`, the columns of one field side by side. -/
def wG (k : Fin 8) (x1 : Vec Ideal S1024x128 .i32) (x2 : Vec Ideal S64x128 .i32) (x3 : Vec Ideal S64x1024 .bf16) (r c : Fin 1024) : EReal :=
  ((((field (fieldShift (c.val / 128)) (x1 (ix2 r ⟨c.val % 128, Nat.mod_lt _ (by decide)⟩)) : ℝ)
      - (field (fieldShift (c.val / 128)) (x2 (ix2 ⟨8 * k.val + r.val / 128, by omega⟩ ⟨c.val % 128, Nat.mod_lt _ (by decide)⟩)) : ℝ) : ℝ)) : EReal)
    * (x3 (ix2 ⟨8 * k.val + r.val / 128, by omega⟩ ⟨8 * (c.val % 128) + c.val / 128, by omega⟩) : EReal)

/-- Each store of weights is a block of them. -/
theorem wPieces_of (i : grid0.Coords) (k : Fin 8) (hk : (i 1).val = k.val) (arg3 : Memref sig .tc .vmem S1024x128 .i32) (harg3 : arg3.IsWhole)
    (arg7 : Memref sig .tc .vmem S8x64x128 .i32) (arg8 : Memref sig .tc .vmem S8x64x2x128 .bf16)
    (x1 : Vec Ideal S1024x128 .i32) (x2 : Vec Ideal S64x128 .i32) (x3 : Vec Ideal S64x1024 .bf16)
    (f7 : arg7.view.ty.Contents (Elt Ideal)) (f8 : arg8.view.ty.Contents (Elt Ideal))
    (h7 : arg7.view.read (Elt Ideal) f7 = zG x2) (h8 : arg8.view.read (Elt Ideal) f8 = sG x3) :
    ∀ (n : ℕ) (h : n ≤ 64), View.PiecesOf (Val := Elt Ideal) (e := .bf16) (fun y : S1024x1024.Idx => wG k x1 x2 x3 (y 0) (y 1))
      (wPieces i arg3 harg3 arg7 arg8 x1 f7 f8 n h)
  | 0, _ => trivial
  | n + 1, h => by
    refine ⟨fun x => ?_, wPieces_of i k hk arg3 harg3 arg7 arg8 x1 x2 x3 f7 f8 h7 h8 n _⟩
    obtain ⟨a, l, rfl⟩ : ∃ (a : Fin 128) (l : Fin 128), x = ix2 a l := ⟨x 0, x 1, eq_ix2 x⟩
    have hp : n % 8 < 8 := Nat.mod_lt _ (by decide)
    have hg : n / 8 < 8 := by omega
    have hr : gRow i (n / 8) = 8 * k.val + n / 8 := by rw [gRow_eq _ _ hg, hk]
    have ez : View.readAt (Elt Ideal) arg7.view (Rect.unit (s := S8x64x128) ![n % 8, gRow i (n / 8), 0] S1x1x128.size
          (inb_zRow i (n % 8) (n / 8) hp hg)).toLoadRect f7 (ix3 0 0 l)
        = zeroWord (fieldShift (n % 8)) (x2 (ix2 ⟨8 * k.val + n / 8, by omega⟩ l)) :=
      (readAt_unit_apply _ _ _ _ _ _ (zG x2) h7 (ix3 (⟨n % 8, hp⟩ : Fin 8) (⟨8 * k.val + n / 8, by omega⟩ : Fin 64) l)
        (by intro b; fin_cases b <;> simp [hr])).trans rfl
    refine (wTile_apply _ (by unfold fieldShift; omega) _ _ _ (field (fieldShift (n % 8)) (x2 (ix2 ⟨8 * k.val + n / 8, by omega⟩ l)))
      (field_lt _ _) a l (fun hh hlt => ?_)).trans ?_
    · rw [ez]; exact zeroWord_half _ (fieldShift_lt _ hp) _ _ hlt
    have eq : View.readAt (Elt Ideal) arg3.view (Rect.unit (s := S1024x128) ![128 * (n / 8), 0] S128x128.size
          (inb_q (n / 8) hg)).toLoadRect (harg3.unread x1) (ix2 a l) = x1 (ix2 ⟨128 * (n / 8) + a.val, by omega⟩ l) :=
      readAt_unit_apply _ _ _ _ _ _ x1 (harg3.read_unread _) _ (by intro b; fin_cases b <;> simp)
    have es : View.readAt (Elt Ideal) arg8.view (Rect.unit (s := S8x64x2x128) ![n % 8, gRow i (n / 8), 0, 0] S1x1x2x128.size
          (inb_sRow i (n % 8) (n / 8) hp hg)).toLoadRect f8 (ix4 0 0 ⟨a.val % 2, Nat.mod_lt _ (by decide)⟩ l)
        = x3 (ix2 ⟨8 * k.val + n / 8, by omega⟩ ⟨8 * l.val + n % 8, by omega⟩) :=
      (readAt_unit_apply _ _ _ _ _ _ (sG x3) h8 (ix4 (⟨n % 8, hp⟩ : Fin 8) (⟨8 * k.val + n / 8, by omega⟩ : Fin 64)
        (⟨a.val % 2, Nat.mod_lt _ (by decide)⟩ : Fin 2) l) (by intro b; fin_cases b <;> simp [hr])).trans rfl
    rw [eq, es, show 4 * (fieldShift (n % 8) / 4) = fieldShift (n % 8) by unfold fieldShift; omega]
    have key : ∀ (r c : Fin 1024), r.val = 128 * (n / 8) + a.val → c.val = 128 * (n % 8) + l.val →
        wG k x1 x2 x3 r c = (((field (fieldShift (n % 8)) (x1 (ix2 ⟨128 * (n / 8) + a.val, by omega⟩ l)) : ℝ)
          - (field (fieldShift (n % 8)) (x2 (ix2 ⟨8 * k.val + n / 8, by omega⟩ l)) : ℝ) : ℝ) : EReal)
          * (x3 (ix2 ⟨8 * k.val + n / 8, by omega⟩ ⟨8 * l.val + n % 8, by omega⟩) : EReal) := by
      intro r c h1 h2
      have e1 : c.val / 128 = n % 8 := by omega
      have e2 : (⟨c.val % 128, Nat.mod_lt _ (by decide)⟩ : Fin 128) = l := Fin.ext (by show c.val % 128 = l.val; omega)
      have e3 : (⟨8 * k.val + r.val / 128, by omega⟩ : Fin 64) = ⟨8 * k.val + n / 8, by omega⟩ := Fin.ext (by show 8 * k.val + r.val / 128 = 8 * k.val + n / 8; omega)
      have e4 : (⟨8 * (c.val % 128) + c.val / 128, by omega⟩ : Fin 1024) = ⟨8 * l.val + n % 8, by omega⟩ := Fin.ext (by show 8 * (c.val % 128) + c.val / 128 = 8 * l.val + n % 8; omega)
      have e5 : x1 (ix2 r l) = x1 (ix2 ⟨128 * (n / 8) + a.val, by omega⟩ l) := congrArg (fun r => x1 (ix2 r l)) (Fin.ext h1)
      unfold wG
      rw [e2, e3, e4, e1, e5]
    exact (key _ _ (by show 128 * (n / 8) + 1 * a.val = _; omega) (by show 128 * (n % 8) + 1 * l.val = _; omega)).symm

/-- The tiles of the weights cover them. -/
theorem wPieces_cover (i : grid0.Coords) (arg3 : Memref sig .tc .vmem S1024x128 .i32) (harg3 : arg3.IsWhole)
    (arg7 : Memref sig .tc .vmem S8x64x128 .i32) (arg8 : Memref sig .tc .vmem S8x64x2x128 .bf16)
    (x1 : Vec F S1024x128 .i32) (f7 : arg7.view.ty.Contents (Elt F)) (f8 : arg8.view.ty.Contents (Elt F)) :
    ∀ y : S1024x1024.Idx, ∃ p ∈ wPieces i arg3 harg3 arg7 arg8 x1 f7 f8 64 le_rfl, y ∈ p.1.set :=
  View.cover_of_tiledL _ S128x128.size (by sl_kernel_rfl)

/-- The accumulator's column an output column comes from. -/
def unCol (c : Fin 1024) : Fin 1024 := ⟨128 * (c.val % 8) + c.val / 8, by omega⟩

/-- Each store of the output is a block of the accumulator, its columns interleaved. -/
theorem oPieces_of (arg10 : Memref sig .tc .vmem S256x1024 .f32) (L : List (View.Piece (Elt Ideal) S256x1024 .f32)) (A : Fin 256 → Fin 1024 → EReal)
    (hA : ∀ r c, View.canon L (ix2 r c) = A r c) :
    ∀ (n : ℕ) (h : n ≤ 128), View.PiecesOf (Val := Elt Ideal) (e := .bf16) (fun y : S256x1024.Idx => A (y 0) (unCol (y 1))) (oPieces arg10 L n h)
  | 0, _ => trivial
  | n + 1, h => by
    refine ⟨fun x => ?_, oPieces_of arg10 L A hA n _⟩
    obtain ⟨a, l, rfl⟩ : ∃ (a : Fin 16) (l : Fin 128), x = ix2 a l := ⟨x 0, x 1, eq_ix2 x⟩
    refine (interV_apply _ _ (Nat.mod_lt _ (by decide)) a l).trans ?_
    unfold accTile
    rw [View.readCov_eq_canon']
    have key : ∀ (r : Fin 256) (c : Fin 1024) (y : S256x1024.Idx), (y 0).val = r.val → (y 1).val = (unCol c).val →
        View.canon L y = A r (unCol c) := by
      intro r c y h0 h1
      rw [← hA, eq_ix2 y]
      exact congrArg (View.canon L) (congrArg₂ ix2 (Fin.ext h0) (Fin.ext h1))
    refine key _ _ _ ?_ ?_
    · show 16 * (n / 8) + 1 * a.val = 16 * (n / 8) + 1 * a.val
      rfl
    · show 128 * (l.val % 8 % 8) + 1 * ((16 * (n % 8) + l.val / 8) % 128)
        = 128 * ((128 * (n % 8) + 1 * l.val) % 8) + (128 * (n % 8) + 1 * l.val) / 8
      omega

end Cert.KernelIdeal.Value
-- ==== Proof.Value.Cases.lean ====
module

public import proofs.«01_k».proof.Proof.Value.Contents
public import Idealize.ShloMosaic.Lib.MatmulPlain

@[expose] public section

set_option maxRecDepth 16384

noncomputable section

/-! What each case of the kernel leaves in the buffers that outlive a grid point. -/

namespace Cert.KernelIdeal.Value

open Idealize.ShloMosaic Idealize.ShloMosaic.TcCoe Idealize.ShloMosaic.Tactic
open Cert.KernelIdeal.Gen Idealize.ShloMosaic.ValueIdx

variable {F : FTy → Type} [FloatOps F]

/-- The block's columns of the activations. -/
def xBlk (i : grid0.Coords) (arg2 : Memref sig .tc .vmem S256x8192 .bf16) (harg2 : arg2.IsWhole) (x0 : Vec F S256x8192 .bf16) : Vec F S256x1024 .bf16 :=
  View.readAt (Elt F) arg2.view (Rect.unit (s := S256x8192) (k0_off26 i) S256x1024.size (k0_off26_inb i)).toLoadRect (harg2.unread x0)

/-- The load of all the weights after the stores `L` into their buffer. -/
def wBlk (arg9 : Memref sig .tc .vmem S1024x1024 .bf16) (L : List (View.Piece (Elt F) S1024x1024 .bf16)) : Vec F S1024x1024 .bf16 :=
  arg9.view.readCov L (Rect.unit (s := S1024x1024) ![0, 0] S1024x1024.size inb_S1024x1024_S1024x1024_0_0).toLoadRect

/-- The activations a point reads start at column 1024 times its block of the contraction. -/
theorem off26_eq (i : grid0.Coords) : k0_off26 i = ![0, 1024 * (i 1).val] := by
  have key : ∀ a : Fin 8, (Scalar.indexCast (Scalar.muli (BitVec.ofNat 32 a.val) 1024#32) : BitVec 32).toNat = 1024 * a.val := by decide
  funext b; fin_cases b
  · rfl
  · exact key (i 1)

/-- The block's columns of the activations, at an index. -/
theorem xBlk_apply (i : grid0.Coords) (k : Fin 8) (hk : (i 1).val = k.val) (arg2 : Memref sig .tc .vmem S256x8192 .bf16) (harg2 : arg2.IsWhole)
    (x0 : Vec F S256x8192 .bf16) (r : Fin 256) (d : Fin 1024) :
    xBlk i arg2 harg2 x0 (ix2 r d) = x0 (ix2 r ⟨1024 * k.val + d.val, by omega⟩) := by
  refine readAt_unit_apply _ _ _ _ _ _ x0 (harg2.read_unread _) _ ?_
  intro b
  refine Eq.trans ?_ (congrArg (· + _) (congrFun (off26_eq i) b).symm)
  rw [hk]; fin_cases b <;> simp

/-- The product of a block, at an index. -/
theorem pay1_apply (x : Vec Ideal S256x1024 .bf16) (w : Vec Ideal S1024x1024 .bf16) (r : Fin 256) (c : Fin 1024) :
    (k0_pay1 x w (ix2 r c) : EReal) = ∑ k : Fin 1024, (x (ix2 r k) : EReal) * (w (ix2 k c) : EReal) := by
  unfold k0_pay1
  rw [shapeCast_self]
  refine (Ideal.matmul_plain_apply (M := 256) (K := 1024) (N := 1024) none _ _ _ r c).trans ?_
  rw [show (constant S256x1024 .f32 0x00000000#32 : FVec Ideal S256x1024 .f32) (ix2 r c) = (0 : EReal) from Ideal.ofBits_zero_f32, zero_add]

/-- A block's contribution to the accumulator. -/
def partG (k : Fin 8) (x0 : Vec Ideal S256x8192 .bf16) (x1 : Vec Ideal S1024x128 .i32) (x2 : Vec Ideal S64x128 .i32) (x3 : Vec Ideal S64x1024 .bf16)
    (r : Fin 256) (c : Fin 1024) : EReal :=
  ∑ d : Fin 1024, (x0 (ix2 r ⟨1024 * k.val + d.val, by omega⟩) : EReal) * wG k x1 x2 x3 d c

/-- The product of a block, from the stores that left its weights. -/
theorem pay1_part (i : grid0.Coords) (k : Fin 8) (hk : (i 1).val = k.val) (arg2 : Memref sig .tc .vmem S256x8192 .bf16) (harg2 : arg2.IsWhole)
    (arg9 : Memref sig .tc .vmem S1024x1024 .bf16) (arg3 : Memref sig .tc .vmem S1024x128 .i32) (harg3 : arg3.IsWhole)
    (arg7 : Memref sig .tc .vmem S8x64x128 .i32) (arg8 : Memref sig .tc .vmem S8x64x2x128 .bf16)
    (x0 : Vec Ideal S256x8192 .bf16) (x1 : Vec Ideal S1024x128 .i32) (x2 : Vec Ideal S64x128 .i32) (x3 : Vec Ideal S64x1024 .bf16)
    (f7 : arg7.view.ty.Contents (Elt Ideal)) (f8 : arg8.view.ty.Contents (Elt Ideal))
    (h7 : arg7.view.read (Elt Ideal) f7 = zG x2) (h8 : arg8.view.read (Elt Ideal) f8 = sG x3) (r : Fin 256) (c : Fin 1024) :
    k0_pay1 (xBlk i arg2 harg2 x0) (wBlk arg9 (wPieces i arg3 harg3 arg7 arg8 x1 f7 f8 64 le_rfl)) (ix2 r c) = partG k x0 x1 x2 x3 r c := by
  rw [pay1_apply]
  unfold partG
  refine Finset.sum_congr rfl fun d _ => ?_
  rw [xBlk_apply i k hk]
  congr 1
  unfold wBlk
  rw [View.readCov_eq_canon']
  refine (congrArg (View.canon _) (?_ : _ = ix2 d c)).trans ?_
  · funext b; fin_cases b
    · exact Fin.ext (by show 0 + 1 * d.val = d.val; omega)
    · exact Fin.ext (by show 0 + 1 * c.val = c.val; omega)
  · exact View.canon_apply_of_pieces (Val := Elt Ideal) (e := .bf16) (fun y : S1024x1024.Idx => wG k x1 x2 x3 (y 0) (y 1)) _
      (wPieces_of i k hk arg3 harg3 arg7 arg8 x1 x2 x3 f7 f8 h7 h8 64 le_rfl).mem (ix2 d c)
      (wPieces_cover i arg3 harg3 arg7 arg8 x1 f7 f8 _)

/-- One store of the whole accumulator leaves it. -/
theorem canon_acc (w : S256x1024.Idx → Elt F .f32) (y : S256x1024.Idx) :
    View.canon (Val := Elt F) [⟨Rect.unit (s := S256x1024) ![0, 0] S256x1024.size inb_S256x1024_S256x1024_0_0, w⟩] y = w y := by
  rw [View.canon_cons_unit_lit inb_S256x1024_S256x1024_0_0 w [] (by intro a; fin_cases a <;> rfl)]

/-- A load of the whole accumulator as it was before the point. -/
theorem accLoad (arg10 : Memref sig .tc .vmem S256x1024 .f32) (harg10 : arg10.IsWhole) (xs3 : Vec F S256x1024 .f32) (y : S256x1024.Idx) :
    View.readAt (Elt F) arg10.view (Rect.unit (s := S256x1024) ![0, 0] S256x1024.size inb_S256x1024_S256x1024_0_0).toLoadRect (harg10.unread xs3) y = xs3 y :=
  readAt_unit_apply _ _ _ _ _ _ xs3 (harg10.read_unread _) _ (by intro b; fin_cases b <;> simp)

set_option Elab.async false in
/-- Case A's stores of the zero words. -/
theorem runA_0 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) :
    (kernelRun0_A c i arg2 harg2 arg3 harg3 arg4 harg4 arg5 harg5 arg6 harg6 arg7 harg7 arg8 harg8 arg9 harg9 arg10 harg10 hc0 hc1 hc2 hc3 x0 x1 x2 x3).2.1 = zPieces arg4 harg4 x2 64 le_rfl :=
  (show _ = kernelRun0_A.sl.HS0_64 c arg4 harg4 x2 by sl_kernel_rfl).trans (HS0_eq c arg4 harg4 x2)

set_option Elab.async false in
/-- Case A's stores of the scales. -/
theorem runA_1 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) :
    (kernelRun0_A c i arg2 harg2 arg3 harg3 arg4 harg4 arg5 harg5 arg6 harg6 arg7 harg7 arg8 harg8 arg9 harg9 arg10 harg10 hc0 hc1 hc2 hc3 x0 x1 x2 x3).2.2.1 = sPieces arg5 harg5 x3 64 le_rfl :=
  (show _ = kernelRun0_A.sl.HS1_64 c arg5 harg5 x3 by sl_kernel_rfl).trans (HS1_eq c arg5 harg5 x3)

set_option Elab.async false in
/-- Case A's store of the accumulator: the block's product. -/
theorem runA_3 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) :
    (kernelRun0_A c i arg2 harg2 arg3 harg3 arg4 harg4 arg5 harg5 arg6 harg6 arg7 harg7 arg8 harg8 arg9 harg9 arg10 harg10 hc0 hc1 hc2 hc3 x0 x1 x2 x3).2.2.2.1
      = [⟨Rect.unit (s := S256x1024) ![0, 0] S256x1024.size inb_S256x1024_S256x1024_0_0, k0_pay2 (xBlk i arg2 harg2 x0) (wBlk arg9 (kernelRun0_A.sl.HS2_64 c i arg3 harg3 arg4 harg4 arg5 harg5 arg7 arg8 x1 x2 x3))⟩] := by
  sl_kernel_rfl

set_option Elab.async false in
/-- Case B's store of the accumulator: what it held plus the block's product. -/
theorem runB_3 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : ¬cond0_3 i)
    (x0 : Vec F S256x8192 .bf16) (x1 : Vec F S1024x128 .i32) (x2 : Vec F S64x128 .i32) (x3 : Vec F S64x1024 .bf16) (xs0 : Vec F S8x64x128 .i32) (xs1 : Vec F S8x64x2x128 .bf16) (xs3 : Vec F S256x1024 .f32) :
    (kernelRun0_B c i arg2 harg2 arg3 harg3 arg4 harg4 arg5 harg5 arg6 harg6 arg7 harg7 arg8 harg8 arg9 harg9 arg10 harg10 hc0 hc1 hc2 hc3 x0 x1 x2 x3 xs0 xs1 xs3).2.2.2.1
      = [⟨Rect.unit (s := S256x1024) ![0, 0] S256x1024.size inb_S256x1024_S256x1024_0_0, k0_pay3 (xBlk i arg2 harg2 x0) (wBlk arg9 (kernelRun0_B.sl.HS2_64 c i arg3 harg3 arg7 harg7 arg8 harg8 x1 xs0 xs1))
          (View.readAt (Elt F) arg10.view (Rect.unit (s := S256x1024) ![0, 0] S256x1024.size inb_S256x1024_S256x1024_0_0).toLoadRect (harg10.unread xs3))⟩] := by
  sl_kernel_rfl

set_option Elab.async false in
/-- Case C's store of the accumulator: what it held plus the block's product. -/
theorem runC_3 (c : Dev nD) (i : grid0.Coords) (arg2 : Memref sig .tc .vmem S256x8192 .bf16) (harg2 : arg2.IsWhole) (arg3 : Memref sig .tc .vmem S1024x128 .i32) (harg3 : arg3.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (arg10 : Memref sig .tc .vmem S256x1024 .f32) (harg10 : arg10.IsWhole)
    (x0 : Vec F S256x8192 .bf16) (x1 : Vec F S1024x128 .i32) (xs0 : Vec F S8x64x128 .i32) (xs1 : Vec F S8x64x2x128 .bf16) (xs3 : Vec F S256x1024 .f32) :
    kernelRun0_C.sl.HS3_1 c i arg2 harg2 arg3 harg3 arg7 harg7 arg8 harg8 arg9 arg10 harg10 x0 x1 xs0 xs1 xs3
      = [⟨Rect.unit (s := S256x1024) ![0, 0] S256x1024.size inb_S256x1024_S256x1024_0_0, k0_pay3 (xBlk i arg2 harg2 x0) (wBlk arg9 (kernelRun0_C.sl.HS2_64 c i arg3 harg3 arg7 harg7 arg8 harg8 x1 xs0 xs1))
          (View.readAt (Elt F) arg10.view (Rect.unit (s := S256x1024) ![0, 0] S256x1024.size inb_S256x1024_S256x1024_0_0).toLoadRect (harg10.unread xs3))⟩] := by
  sl_kernel_rfl

/-- Case A leaves the zero words. -/
theorem soutA_0 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec F S256x8192 .bf16) (x1 : Vec F S1024x128 .i32) (x2 : Vec F S64x128 .i32) (x3 : Vec F S64x1024 .bf16) :
    sout0_A_0 c i arg2 harg2 arg3 harg3 arg4 harg4 arg5 harg5 arg6 harg6 arg7 harg7 arg8 harg8 arg9 harg9 arg10 harg10 hc0 hc1 hc2 hc3 x0 x1 x2 x3 = zG x2 := by
  funext y
  have hcov := scover0_A_0 c i arg2 harg2 arg3 harg3 arg4 harg4 arg5 harg5 arg6 harg6 arg7 harg7 arg8 harg8 arg9 harg9 arg10 harg10 hc0 hc1 hc2 hc3 x0 x1 x2 x3 y
  unfold sout0_A_0
  rw [View.read_writes_junk_eq_canon]
  rw [runA_0] at hcov ⊢
  exact View.canon_apply_of_pieces _ _ (zPieces_of arg4 harg4 x2 64 le_rfl).mem y hcov

/-- Case A leaves the scales. -/
theorem soutA_1 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec Ideal S256x8192 .bf16) (x1 : Vec Ideal S1024x128 .i32) (x2 : Vec Ideal S64x128 .i32) (x3 : Vec Ideal S64x1024 .bf16) :
    sout0_A_1 c i arg2 harg2 arg3 harg3 arg4 harg4 arg5 harg5 arg6 harg6 arg7 harg7 arg8 harg8 arg9 harg9 arg10 harg10 hc0 hc1 hc2 hc3 x0 x1 x2 x3 = sG x3 := by
  funext y
  have hcov := scover0_A_1 c i arg2 harg2 arg3 harg3 arg4 harg4 arg5 harg5 arg6 harg6 arg7 harg7 arg8 harg8 arg9 harg9 arg10 harg10 hc0 hc1 hc2 hc3 x0 x1 x2 x3 y
  unfold sout0_A_1
  rw [View.read_writes_junk_eq_canon]
  rw [runA_1] at hcov ⊢
  exact View.canon_apply_of_pieces _ _ (sPieces_of arg5 harg5 x3 64 le_rfl).mem y hcov

/-- Case A leaves the block's product in the accumulator. -/
theorem soutA_3 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : cond0_0 i) (hc1 : cond0_1 i) (hc2 : ¬cond0_2 i) (hc3 : ¬cond0_3 i)
    (x0 : Vec Ideal S256x8192 .bf16) (x1 : Vec Ideal S1024x128 .i32) (x2 : Vec Ideal S64x128 .i32) (x3 : Vec Ideal S64x1024 .bf16) (k : Fin 8) (hk : (i 1).val = k.val) (r : Fin 256) (d : Fin 1024) :
    sout0_A_3 c i arg2 harg2 arg3 harg3 arg4 harg4 arg5 harg5 arg6 harg6 arg7 harg7 arg8 harg8 arg9 harg9 arg10 harg10 hc0 hc1 hc2 hc3 x0 x1 x2 x3 (ix2 r d) = partG k x0 x1 x2 x3 r d := by
  have h7 : arg7.view.read (Elt Ideal) (arg7.view.writes (Elt Ideal) arg7.view.junk (kernelRun0_A.sl.HS0_64 c arg4 harg4 x2)) = zG x2 := by
    funext y
    have hcov := scover0_A_0 c i arg2 harg2 arg3 harg3 arg4 harg4 arg5 harg5 arg6 harg6 arg7 harg7 arg8 harg8 arg9 harg9 arg10 harg10 hc0 hc1 hc2 hc3 x0 x1 x2 x3 y
    rw [runA_0] at hcov
    rw [View.read_writes_junk_eq_canon, HS0_eq]
    exact View.canon_apply_of_pieces _ _ (zPieces_of arg4 harg4 x2 64 le_rfl).mem y hcov
  have h8 : arg8.view.read (Elt Ideal) (arg8.view.writes (Elt Ideal) arg8.view.junk (kernelRun0_A.sl.HS1_64 c arg5 harg5 x3)) = sG x3 := by
    funext y
    have hcov := scover0_A_1 c i arg2 harg2 arg3 harg3 arg4 harg4 arg5 harg5 arg6 harg6 arg7 harg7 arg8 harg8 arg9 harg9 arg10 harg10 hc0 hc1 hc2 hc3 x0 x1 x2 x3 y
    rw [runA_1] at hcov
    rw [View.read_writes_junk_eq_canon, HS1_eq]
    exact View.canon_apply_of_pieces _ _ (sPieces_of arg5 harg5 x3 64 le_rfl).mem y hcov
  unfold sout0_A_3
  rw [View.read_writes_junk_eq_canon, runA_3]
  refine (canon_acc _ _).trans ?_
  rw [HS2_A_eq]
  unfold k0_pay2
  rw [shapeCast_self]
  exact pay1_part i k hk arg2 harg2 arg9 arg3 harg3 arg7 arg8 x0 x1 x2 x3 _ _ h7 h8 r d

/-- Case B adds the block's product to the accumulator. -/
theorem soutB_3 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : ¬cond0_3 i)
    (x0 : Vec Ideal S256x8192 .bf16) (x1 : Vec Ideal S1024x128 .i32) (x2 : Vec Ideal S64x128 .i32) (x3 : Vec Ideal S64x1024 .bf16) (xs0 : Vec Ideal S8x64x128 .i32) (xs1 : Vec Ideal S8x64x2x128 .bf16) (xs3 : Vec Ideal S256x1024 .f32) (k : Fin 8) (hk : (i 1).val = k.val)
    (z : Vec Ideal S64x128 .i32) (s : Vec Ideal S64x1024 .bf16) (h0 : xs0 = zG z) (h1 : xs1 = sG s) (r : Fin 256) (d : Fin 1024) :
    (sout0_B_3 c i arg2 harg2 arg3 harg3 arg4 harg4 arg5 harg5 arg6 harg6 arg7 harg7 arg8 harg8 arg9 harg9 arg10 harg10 hc0 hc1 hc2 hc3 x0 x1 x2 x3 xs0 xs1 xs3 (ix2 r d) : EReal) = (xs3 (ix2 r d) : EReal) + partG k x0 x1 z s r d := by
  unfold sout0_B_3
  rw [View.read_writes_junk_eq_canon, runB_3]
  refine (canon_acc _ _).trans ?_
  rw [HS2_B_eq]
  unfold k0_pay3
  rw [shapeCast_self, ← pay1_part i k hk arg2 harg2 arg9 arg3 harg3 arg7 arg8 x0 x1 z s _ _ ((harg7.read_unread _).trans h0) ((harg8.read_unread _).trans h1) r d]
  exact congrArg (· + _) (accLoad arg10 harg10 xs3 (ix2 r d))

/-- Case C writes the accumulator plus the block's product, its columns interleaved. -/
theorem outC_4 (c : Dev nD) (i : grid0.Coords) (arg2 : Memref sig .tc .vmem S256x8192 .bf16) (harg2 : arg2.IsWhole) (arg3 : Memref sig .tc .vmem S1024x128 .i32) (harg3 : arg3.IsWhole) (arg4 : Memref sig .tc .vmem S64x128 .i32) (harg4 : arg4.IsWhole) (arg5 : Memref sig .tc .vmem S64x1024 .bf16) (harg5 : arg5.IsWhole) (arg6 : Memref sig .tc .vmem S256x1024 .bf16) (harg6 : arg6.IsWhole) (arg7 : Memref sig .tc .vmem S8x64x128 .i32) (harg7 : arg7.IsWhole) (arg8 : Memref sig .tc .vmem S8x64x2x128 .bf16) (harg8 : arg8.IsWhole) (arg9 : Memref sig .tc .vmem S1024x1024 .bf16) (harg9 : arg9.IsWhole) (arg10 : Memref sig .tc .vmem S256x1024 .f32) (harg10 : arg10.IsWhole) (hc0 : ¬cond0_0 i) (hc1 : ¬cond0_1 i) (hc2 : cond0_2 i) (hc3 : cond0_3 i)
    (x0 : Vec Ideal S256x8192 .bf16) (x1 : Vec Ideal S1024x128 .i32) (x2 : Vec Ideal S64x128 .i32) (x3 : Vec Ideal S64x1024 .bf16) (xs0 : Vec Ideal S8x64x128 .i32) (xs1 : Vec Ideal S8x64x2x128 .bf16) (xs3 : Vec Ideal S256x1024 .f32) (k : Fin 8) (hk : (i 1).val = k.val)
    (z : Vec Ideal S64x128 .i32) (s : Vec Ideal S64x1024 .bf16) (h0 : xs0 = zG z) (h1 : xs1 = sG s) (r : Fin 256) (d : Fin 1024) :
    (out0_C_4 c i arg2 harg2 arg3 harg3 arg4 harg4 arg5 harg5 arg6 harg6 arg7 harg7 arg8 harg8 arg9 harg9 arg10 harg10 hc0 hc1 hc2 hc3 x0 x1 x2 x3 xs0 xs1 xs3 (ix2 r d) : EReal) = (xs3 (ix2 r (unCol d)) : EReal) + partG k x0 x1 z s r (unCol d) := by
  have hcov := cover0_C_4 c i arg2 harg2 arg3 harg3 arg4 harg4 arg5 harg5 arg6 harg6 arg7 harg7 arg8 harg8 arg9 harg9 arg10 harg10 hc0 hc1 hc2 hc3 x0 x1 x2 x3 xs0 xs1 xs3 (ix2 r d)
  unfold out0_C_4
  rw [View.read_writes_junk_eq_canon]
  rw [L4_eq] at hcov ⊢
  refine View.canon_apply_of_pieces (Val := Elt Ideal) (e := .bf16)
    (fun y : S256x1024.Idx => (xs3 (ix2 (y 0) (unCol (y 1))) : EReal) + partG k x0 x1 z s (y 0) (unCol (y 1))) _
    (oPieces_of arg10 _ (fun r d => (xs3 (ix2 r d) : EReal) + partG k x0 x1 z s r d) (fun r d => ?_) 128 le_rfl).mem (ix2 r d) hcov
  rw [runC_3]
  refine (canon_acc _ _).trans ?_
  rw [HS2_C_eq]
  unfold k0_pay3
  rw [shapeCast_self, ← pay1_part i k hk arg2 harg2 arg9 arg3 harg3 arg7 arg8 x0 x1 z s _ _ ((harg7.read_unread _).trans h0) ((harg8.read_unread _).trans h1) r d]
  exact congrArg (· + _) (accLoad arg10 harg10 xs3 (ix2 r d))

end Cert.KernelIdeal.Value
-- ==== Proof.Value.Points.lean ====
module

public import proofs.«01_k».proof.Proof.Value.Cases
public import Idealize.ShloMosaic.Lib.Pipeline.Value

@[expose] public section

set_option maxRecDepth 16384

noncomputable section

/-! The grid: what the buffers hold after each point, and the array after the run. -/

namespace Cert.KernelIdeal.Value

open Idealize.ShloMosaic Idealize.ShloMosaic.TcCoe Idealize.ShloMosaic.Tactic
open Idealize.ShloMosaic.Pipeline (Dat Cfg Window)
open Cert.KernelIdeal.Gen Idealize.ShloMosaic.ValueIdx

/-! ## Blocks of the arguments -/

/-- Block `(k, n)` of the words of the weights. -/
def qB (Q : Vec Ideal S8192x2048 .i32) (n : Fin 16) (k : Fin 8) : Vec Ideal S1024x128 .i32 :=
  fun y => Q (ix2 ⟨1024 * k.val + (y 0).val, by have := (y 0).isLt; simp [S1024x128] at *; omega⟩
    ⟨128 * n.val + (y 1).val, by have := (y 1).isLt; simp [S1024x128] at *; omega⟩)

/-- Block `n` of the words of the zeros. -/
def zB (Z : Vec Ideal S64x2048 .i32) (n : Fin 16) : Vec Ideal S64x128 .i32 :=
  fun y => Z (ix2 (y 0) ⟨128 * n.val + (y 1).val, by have := (y 1).isLt; simp [S64x128] at *; omega⟩)

/-- Block `n` of the scales. -/
def sB (S : Vec Ideal S64x16384 .bf16) (n : Fin 16) : Vec Ideal S64x1024 .bf16 :=
  fun y => S (ix2 (y 0) ⟨1024 * n.val + (y 1).val, by have := (y 1).isLt; simp [S64x1024] at *; omega⟩)

/-- What block `k` of the contraction contributes to block `n` of the accumulator; nothing from `k = 8` on. -/
def partN (X : Vec Ideal S256x8192 .bf16) (Q : Vec Ideal S8192x2048 .i32) (Z : Vec Ideal S64x2048 .i32) (S : Vec Ideal S64x16384 .bf16)
    (n : Fin 16) (k : ℕ) (r : Fin 256) (c : Fin 1024) : EReal :=
  if h : k < 8 then partG ⟨k, h⟩ X (qB Q n ⟨k, h⟩) (zB Z n) (sB S n) r c else 0

variable (m : (ℓ : Loc nD τ sig) → Buf (Elt Ideal) ℓ) (c : Dev nD)

/-- The activations the region reads. -/
abbrev AX : Vec Ideal S256x8192 .bf16 := V m c main_v0
/-- The words of the weights. -/
abbrev AQ : Vec Ideal S8192x2048 .i32 := V m c main_arg1
/-- The words of the zeros. -/
abbrev AZ : Vec Ideal S64x2048 .i32 := V m c main_arg2
/-- The scales. -/
abbrev AS : Vec Ideal S64x16384 .bf16 := V m c main_arg3

/-- There are 128 points. -/
theorem tlt (t : Fin cfg0.N) : t.val < 128 := lt_of_lt_of_eq t.isLt (show cfg0.N = 128 from N_0)

/-- The block of columns of a point. -/
def nOf (t : Fin cfg0.N) : Fin 16 := ⟨t.val / 8, by have := tlt t; omega⟩
/-- The block of the contraction of a point. -/
def kOf (t : Fin cfg0.N) : Fin 8 := ⟨t.val % 8, Nat.mod_lt _ (by decide)⟩

/-- A point's second grid coordinate is its block of the contraction. -/
theorem coords1 (t : Fin cfg0.N) : (grid0.coords t 1).val = (kOf t).val := by
  have e : (grid0.coords t 1).val = t.val / 1 % 8 := Pipeline.Grid.coords_val t 1 (by decide) rfl
  exact e.trans (by rw [Nat.div_one]; rfl)

/-- The activations' window is at the whole array at every point. -/
theorem index0 : ∀ t : Fin grid0.N, win0_0.index t 0 = 0 ∧ win0_0.index t 1 = 0 := by decide +kernel
/-- The words' window is at the point's block of the contraction and block of columns. -/
theorem index1 : ∀ t : Fin grid0.N, win0_1.index t 0 = t.val % 8 ∧ win0_1.index t 1 = t.val / 8 := by decide +kernel
/-- The zeros' window is at the point's block of columns. -/
theorem index2 : ∀ t : Fin grid0.N, win0_2.index t 0 = 0 ∧ win0_2.index t 1 = t.val / 8 := by decide +kernel
/-- The scales' window is at the point's block of columns. -/
theorem index3 : ∀ t : Fin grid0.N, win0_3.index t 0 = 0 ∧ win0_3.index t 1 = t.val / 8 := by decide +kernel
/-- The output's window is at the point's block of columns. -/
theorem index4 : ∀ t : Fin grid0.N, win0_4.index t 0 = 0 ∧ win0_4.index t 1 = t.val / 8 := by decide +kernel

/-- The activations' block is the whole array. -/
theorem iblk_0 (t : Fin cfg0.N) : (iblk m c 0 t : Vec Ideal S256x8192 .bf16) = AX m c := by
  funext y
  unfold iblk
  rw [View.read_apply]
  show V m c main_v0 _ = V m c main_v0 y
  congr 1
  funext a
  apply Fin.ext
  match a with
  | ⟨0, _⟩ => show win0_0.index t 0 * 256 + 1 * (y 0).val = (y 0).val; rw [(index0 t).1]; omega
  | ⟨1, _⟩ => show win0_0.index t 1 * 8192 + 1 * (y 1).val = (y 1).val; rw [(index0 t).2]; omega

/-- The block of the words of the weights. -/
theorem iblk_1 (t : Fin cfg0.N) : (iblk m c 1 t : Vec Ideal S1024x128 .i32) = qB (AQ m c) (nOf t) (kOf t) := by
  funext y
  unfold iblk
  rw [View.read_apply]
  show V m c main_arg1 _ = V m c main_arg1 _
  congr 1
  funext a
  apply Fin.ext
  match a with
  | ⟨0, _⟩ => show win0_1.index t 0 * 1024 + 1 * (y 0).val = 1024 * (t.val % 8) + (y 0).val; rw [(index1 t).1]; omega
  | ⟨1, _⟩ => show win0_1.index t 1 * 128 + 1 * (y 1).val = 128 * (t.val / 8) + (y 1).val; rw [(index1 t).2]; omega

/-- The block of the words of the zeros. -/
theorem iblk_2 (t : Fin cfg0.N) : (iblk m c 2 t : Vec Ideal S64x128 .i32) = zB (AZ m c) (nOf t) := by
  funext y
  unfold iblk
  rw [View.read_apply]
  show V m c main_arg2 _ = V m c main_arg2 _
  congr 1
  funext a
  apply Fin.ext
  match a with
  | ⟨0, _⟩ => show win0_2.index t 0 * 64 + 1 * (y 0).val = (y 0).val; rw [(index2 t).1]; omega
  | ⟨1, _⟩ => show win0_2.index t 1 * 128 + 1 * (y 1).val = 128 * (t.val / 8) + (y 1).val; rw [(index2 t).2]; omega

/-- The block of the scales. -/
theorem iblk_3 (t : Fin cfg0.N) : (iblk m c 3 t : Vec Ideal S64x1024 .bf16) = sB (AS m c) (nOf t) := by
  funext y
  unfold iblk
  rw [View.read_apply]
  show V m c main_arg3 _ = V m c main_arg3 _
  congr 1
  funext a
  apply Fin.ext
  match a with
  | ⟨0, _⟩ => show win0_3.index t 0 * 64 + 1 * (y 0).val = (y 0).val; rw [(index3 t).1]; omega
  | ⟨1, _⟩ => show win0_3.index t 1 * 1024 + 1 * (y 1).val = 1024 * (t.val / 8) + (y 1).val; rw [(index3 t).2]; omega

/-- A point's contribution to the accumulator. -/
theorem part_iblk (t : Fin cfg0.N) (r : Fin 256) (d : Fin 1024) :
    partG (kOf t) (iblk m c 0 t) (iblk m c 1 t) (zB (AZ m c) (nOf t)) (sB (AS m c) (nOf t)) r d
      = partN (AX m c) (AQ m c) (AZ m c) (AS m c) (nOf t) (t.val % 8) r d := by
  unfold partN
  rw [dif_pos (Nat.mod_lt _ (by decide)), iblk_0, iblk_1]
  rfl

/-- What the carried buffers hold after a point: the block's zero words and scales, and the sum of the contributions so
    far. -/
def Inv (t : Fin cfg0.N) (zb : Vec Ideal S8x64x128 .i32) (sb : Vec Ideal S8x64x2x128 .bf16) (acc : Vec Ideal S256x1024 .f32) : Prop :=
  zb = zG (zB (AZ m c) (nOf t)) ∧ sb = sG (sB (AS m c) (nOf t)) ∧
    (t.val % 8 ≠ 7 → ∀ (r : Fin 256) (d : Fin 1024), (acc (ix2 r d) : EReal)
      = ∑ k ∈ Finset.range (t.val % 8 + 1), partN (AX m c) (AQ m c) (AZ m c) (AS m c) (nOf t) k r d)

/-- After a point that starts a block of columns, the zero words. -/
theorem inv_A0 (t : Fin cfg0.N) (h : t.val % 8 = 0) : (outsAt0 m c t.val t.isLt).2.1 = zG (zB (AZ m c) (nOf t)) := by
  rw [outsAt0_A m c t h h (by omega) (by omega), ← iblk_2]
  dsimp only
  exact soutA_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h) ((hcond0_1 t).mpr h) (fun h' => absurd ((hcond0_2 t).mp h') (by omega)) (fun h' => absurd ((hcond0_3 t).mp h') (by omega)) (iblk m c 0 t) (iblk m c 1 t) (iblk m c 2 t) (iblk m c 3 t)

/-- After a point that starts a block of columns, the scales. -/
theorem inv_A1 (t : Fin cfg0.N) (h : t.val % 8 = 0) : (outsAt0 m c t.val t.isLt).2.2.1 = sG (sB (AS m c) (nOf t)) := by
  rw [outsAt0_A m c t h h (by omega) (by omega), ← iblk_3]
  dsimp only
  exact soutA_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h) ((hcond0_1 t).mpr h) (fun h' => absurd ((hcond0_2 t).mp h') (by omega)) (fun h' => absurd ((hcond0_3 t).mp h') (by omega)) (iblk m c 0 t) (iblk m c 1 t) (iblk m c 2 t) (iblk m c 3 t)

/-- After a point that starts a block of columns, the accumulator. -/
theorem inv_A3 (t : Fin cfg0.N) (h : t.val % 8 = 0) (r : Fin 256) (d : Fin 1024) :
    ((outsAt0 m c t.val t.isLt).2.2.2 (ix2 r d) : EReal) = partN (AX m c) (AQ m c) (AZ m c) (AS m c) (nOf t) (t.val % 8) r d := by
  rw [← part_iblk, ← iblk_2, ← iblk_3, outsAt0_A m c t h h (by omega) (by omega)]
  dsimp only
  exact soutA_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h) ((hcond0_1 t).mpr h) (fun h' => absurd ((hcond0_2 t).mp h') (by omega)) (fun h' => absurd ((hcond0_3 t).mp h') (by omega)) (iblk m c 0 t) (iblk m c 1 t) (iblk m c 2 t) (iblk m c 3 t) (kOf t) (coords1 t) r d

/-- A point that starts a block of columns. -/
theorem inv_A (t : Fin cfg0.N) (h : t.val % 8 = 0) :
    Inv m c t (outsAt0 m c t.val t.isLt).2.1 (outsAt0 m c t.val t.isLt).2.2.1 (outsAt0 m c t.val t.isLt).2.2.2 :=
  ⟨inv_A0 m c t h, inv_A1 m c t h, fun _ r d => by rw [inv_A3 m c t h, h, Finset.sum_range_one]⟩

/-- The point before one that does not start a block of columns. -/
def pre (t : Fin cfg0.N) : Fin cfg0.N := ⟨t.val - 1, Nat.lt_of_le_of_lt (Nat.sub_le _ _) t.isLt⟩

/-- A point that is not first in its block of columns has the same block of columns as the point before. -/
theorem nOf_pre (t : Fin cfg0.N) (h : t.val % 8 ≠ 0) : nOf (pre t) = nOf t := Fin.ext (by show (t.val - 1) / 8 = t.val / 8; omega)

/-- A point in the middle of a block of columns. -/
theorem inv_B (t : Fin cfg0.N) (h : t.val % 8 ≠ 0) (h7 : t.val % 8 ≠ 7)
    (ih : Inv m c (pre t) (outsAt0 m c (pre t).val (pre t).isLt).2.1 (outsAt0 m c (pre t).val (pre t).isLt).2.2.1 (outsAt0 m c (pre t).val (pre t).isLt).2.2.2) :
    Inv m c t (outsAt0 m c t.val t.isLt).2.1 (outsAt0 m c t.val t.isLt).2.2.1 (outsAt0 m c t.val t.isLt).2.2.2 := by
  have e := outsAt0_B m c t h h (by omega) h7
  obtain ⟨i0, i1, i3⟩ := ih
  rw [nOf_pre t h] at i0 i1 i3
  refine ⟨?_, ?_, fun _ r d => ?_⟩
  · exact (congrArg (·.2.1) e).trans i0
  · exact (congrArg (·.2.2.1) e).trans i1
  · refine (congrFun (congrArg (·.2.2.2) e) (ix2 r d)).trans
      ((soutB_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h' => h ((hcond0_0 t).mp h')) (fun h' => h ((hcond0_1 t).mp h')) ((hcond0_2 t).mpr (by omega)) (fun h' => h7 ((hcond0_3 t).mp h')) (iblk m c 0 t) (iblk m c 1 t) (iblk m c 2 t) (iblk m c 3 t) _ _ _ (kOf t) (coords1 t) (zB (AZ m c) (nOf t)) (sB (AS m c) (nOf t)) i0 i1 r d).trans ?_)
    have e8 : (pre t).val % 8 + 1 = t.val % 8 := by show (t.val - 1) % 8 + 1 = t.val % 8; omega
    rw [part_iblk, Finset.sum_range_succ, ← e8]
    exact congrArg (· + _) (i3 (by omega) r d)

/-- The last point of a block of columns keeps the zero words and the scales. -/
theorem inv_C (t : Fin cfg0.N) (h7 : t.val % 8 = 7)
    (ih : Inv m c (pre t) (outsAt0 m c (pre t).val (pre t).isLt).2.1 (outsAt0 m c (pre t).val (pre t).isLt).2.2.1 (outsAt0 m c (pre t).val (pre t).isLt).2.2.2) :
    Inv m c t (outsAt0 m c t.val t.isLt).2.1 (outsAt0 m c t.val t.isLt).2.2.1 (outsAt0 m c t.val t.isLt).2.2.2 := by
  have h : t.val % 8 ≠ 0 := by omega
  have e := outsAt0_C m c t h h (by omega) h7
  obtain ⟨i0, i1, -⟩ := ih
  rw [nOf_pre t h] at i0 i1
  exact ⟨(congrArg (·.2.1) e).trans i0, (congrArg (·.2.2.1) e).trans i1, fun hn => absurd h7 hn⟩

/-- After every point the carried buffers hold what `Inv` says. -/
theorem inv : ∀ (n : ℕ) (hn : n < cfg0.N), Inv m c ⟨n, hn⟩ (outsAt0 m c n hn).2.1 (outsAt0 m c n hn).2.2.1 (outsAt0 m c n hn).2.2.2
  | 0, hn => inv_A m c ⟨0, hn⟩ rfl
  | n + 1, hn => by
    have ih := inv n (Nat.lt_of_succ_lt hn)
    by_cases h0 : (n + 1) % 8 = 0
    · exact inv_A m c ⟨n + 1, hn⟩ h0
    · by_cases h7 : (n + 1) % 8 = 7
      · exact inv_C m c ⟨n + 1, hn⟩ h7 ih
      · exact inv_B m c ⟨n + 1, hn⟩ h0 h7 ih

/-- The output array's index, from a block of columns and one of its columns. -/
def GO (r : Fin 256) (n : Fin 16) (d : Fin 1024) : EReal :=
  ∑ k ∈ Finset.range 8, partN (AX m c) (AQ m c) (AZ m c) (AS m c) n k r (unCol d)

/-- What the last point of a block of columns writes back. -/
theorem out_C (t : Fin cfg0.N) (h7 : t.val % 8 = 7) (r : Fin 256) (d : Fin 1024) :
    ((outsAt0 m c t.val t.isLt).1 (ix2 r d) : EReal) = GO m c r (nOf t) d := by
  have h : t.val % 8 ≠ 0 := by omega
  have e := outsAt0_C m c t h h (by omega) h7
  obtain ⟨i0, i1, i3⟩ := inv m c (pre t).val (pre t).isLt
  have en : nOf ⟨(pre t).val, (pre t).isLt⟩ = nOf t := nOf_pre t h
  rw [en] at i0 i1 i3
  refine (congrFun (congrArg (·.1) e) (ix2 r d)).trans
    ((outC_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (fun h' => h ((hcond0_0 t).mp h')) (fun h' => h ((hcond0_1 t).mp h')) ((hcond0_2 t).mpr (by omega)) ((hcond0_3 t).mpr h7) (iblk m c 0 t) (iblk m c 1 t) (iblk m c 2 t) (iblk m c 3 t) _ _ _ (kOf t) (coords1 t) (zB (AZ m c) (nOf t)) (sB (AS m c) (nOf t)) i0 i1 r d).trans ?_)
  have e8 : (pre t).val % 8 + 1 = 7 := by show (t.val - 1) % 8 + 1 = 7; omega
  have hs := i3 (by show (t.val - 1) % 8 ≠ 7; omega) r (unCol d)
  rw [part_iblk, h7]
  unfold GO
  rw [Finset.sum_range_succ]
  refine congrArg (· + _) (hs.trans ?_)
  rw [show (⟨(pre t).val, (pre t).isLt⟩ : Fin cfg0.N).val % 8 + 1 = 7 from e8]

/-- The output array. -/
def outG : Buf (Elt Ideal) ((c : Thread nD τ).loc main_v1) := fun y : S256x16384.Idx =>
  GO m c (y 0) ⟨(y 1).val / 1024, by have := (y 1).isLt; simp [S256x16384] at *; omega⟩ ⟨(y 1).val % 1024, Nat.mod_lt _ (by decide)⟩

/-- What a point writes back is its block of the output array. -/
theorem flushed_eq (t : Fin cfg0.N) (hf : (cfg0.win 4).flush t = true) :
    (dats m 0 c).flushed 4 t = ((cfg0.win 4).blk t).view.read (Elt Ideal) (outG m c) := by
  have h7 := (flush0_4 t).mp hf
  show (cfg0.win 4).cut (grid0.coords t) ((dats m 0 c).after 4 t) = _
  rw [after0_4]
  funext y
  rw [View.read_apply]
  obtain ⟨r, d, rfl⟩ : ∃ (r : Fin 256) (d : Fin 1024), y = ix2 r d := ⟨y 0, y 1, eq_ix2 y⟩
  refine (out_C m c t h7 r d).trans ?_
  have key : ∀ (r' : Fin 256) (n' : Fin 16) (d' : Fin 1024), r'.val = r.val → n'.val = t.val / 8 → d'.val = d.val →
      GO m c r (nOf t) d = GO m c r' n' d' := by
    intro r' n' d' h1 h2 h3
    rw [show r' = r from Fin.ext h1, show n' = nOf t from Fin.ext h2, show d' = d from Fin.ext h3]
  refine key _ _ _ ?_ ?_ ?_
  · show win0_4.index t 0 * 256 + 1 * r.val = r.val; rw [(index4 t).1]; omega
  · show (win0_4.index t 1 * 1024 + 1 * d.val) / 1024 = t.val / 8; rw [(index4 t).2]; omega
  · show (win0_4.index t 1 * 1024 + 1 * d.val) % 1024 = d.val; rw [(index4 t).2]; omega

/-- Every index of the output array is in a block written back. -/
theorem cover (i : S256x16384.Idx) : ∃ t : Fin cfg0.N, (cfg0.win 4).flush t = true ∧ i ∈ ((cfg0.win 4).blk t).view.set := by
  have h0 : (i 0 : ℕ) < 256 := (i 0).isLt
  have h1 : (i 1 : ℕ) < 16384 := (i 1).isLt
  refine ⟨⟨8 * ((i 1 : ℕ) / 1024) + 7, by rw [show cfg0.N = 128 from N_0]; omega⟩, (flush0_4 _).mpr (by show (8 * ((i 1 : ℕ) / 1024) + 7) % 8 = 7; omega), ?_⟩
  generalize ht : (⟨8 * ((i 1 : ℕ) / 1024) + 7, _⟩ : Fin cfg0.N) = t
  have ht' : 8 * ((i 1 : ℕ) / 1024) + 7 = t.val := congrArg Fin.val ht
  show i ∈ ((View.whole main_v1).slice (win0_4.rect t)).set
  rw [View.set_slice_whole, Rect.mem_set_unit]
  intro a
  match a with
  | ⟨0, _⟩ => show win0_4.index t 0 * 256 ≤ (i 0 : ℕ) ∧ (i 0 : ℕ) < win0_4.index t 0 * 256 + 256
              rw [(index4 t).1]; omega
  | ⟨1, _⟩ => show win0_4.index t 1 * 1024 ≤ (i 1 : ℕ) ∧ (i 1 : ℕ) < win0_4.index t 1 * 1024 + 1024
              rw [(index4 t).2]; omega

/-- The output array after the run. -/
theorem final : (dats m 0 c).arrAt 4 cfg0.N = outG m c :=
  (dats m 0 c).arrAt_eq_of_cover 4 (outG m c) (flushed_eq m c) cover

end Cert.KernelIdeal.Value
-- ==== Proof.Value.Spec.lean ====
module

public import proofs.«01_k».proof.Proof.Value.Points

@[expose] public section

noncomputable section

/-! The result as one formula of the arguments, and the blocked sums put together. -/

namespace Cert.KernelIdeal.Value

open Idealize.ShloMosaic Idealize.ShloMosaic.ValueIdx

/-- The weight of input `d` in output column `col`: the column's field of the word, less the group's zero, times the group's
    scale. -/
def wAt (Q : Fin 8192 → Fin 2048 → BitVec 32) (Z : Fin 64 → Fin 2048 → BitVec 32) (S : Fin 64 → Fin 16384 → EReal)
    (d : Fin 8192) (col : Fin 16384) : EReal :=
  ((((field (fieldShift (col.val % 8)) (Q d ⟨col.val / 8, by omega⟩) : ℝ)
      - (field (fieldShift (col.val % 8)) (Z ⟨d.val / 128, by omega⟩ ⟨col.val / 8, by omega⟩) : ℝ) : ℝ)) : EReal)
    * S ⟨d.val / 128, by omega⟩ col

/-- The product of row `b` of the activations and column `col` of the weights. -/
def yAt (X : Fin 256 → Fin 8192 → EReal) (Q : Fin 8192 → Fin 2048 → BitVec 32) (Z : Fin 64 → Fin 2048 → BitVec 32)
    (S : Fin 64 → Fin 16384 → EReal) (b : Fin 256) (col : Fin 16384) : EReal :=
  ∑ d : Fin 8192, X b d * wAt Q Z S d col

/-- A sum over 8192 is the sum over eight blocks of 1024. -/
theorem sum_blocks (f : Fin 8192 → EReal) :
    ∑ d : Fin 8192, f d = ∑ k : Fin 8, ∑ e : Fin 1024, f ⟨1024 * k.val + e.val, by omega⟩ := by
  rw [← Fintype.sum_prod_type' (fun (k : Fin 8) (e : Fin 1024) => f ⟨1024 * k.val + e.val, by omega⟩)]
  refine (Fintype.sum_equiv (finProdFinEquiv (m := 8) (n := 1024)) _ _ fun p => congrArg f (Fin.ext ?_)).symm
  show 1024 * p.1.val + p.2.val = p.2.val + 1024 * p.1.val
  omega

/-- A weight of a block is the formula's. -/
theorem wG_eq (Q : Vec Ideal S8192x2048 .i32) (Z : Vec Ideal S64x2048 .i32) (S : Vec Ideal S64x16384 .bf16)
    (n : Fin 16) (k : Fin 8) (e d : Fin 1024) :
    wG k (qB Q n k) (zB Z n) (sB S n) e (unCol d)
      = wAt (fun a b => Q (ix2 a b)) (fun a b => Z (ix2 a b)) (fun a b => S (ix2 a b)) ⟨1024 * k.val + e.val, by omega⟩ ⟨1024 * n.val + d.val, by omega⟩ := by
  have key : ∀ (p p' : ℕ) (a a' : Fin 8192) (l l' l2 l2' : Fin 2048) (g g' g2 g2' : Fin 64) (s s' : Fin 16384), p = p' → a.val = a'.val → l.val = l'.val →
      l2.val = l2'.val → g.val = g'.val → g2.val = g2'.val → s.val = s'.val →
      ((((field (fieldShift p) (Q (ix2 a l)) : ℝ) - (field (fieldShift p) (Z (ix2 g l2)) : ℝ) : ℝ)) : EReal) * (S (ix2 g2 s) : EReal)
        = ((((field (fieldShift p') (Q (ix2 a' l')) : ℝ) - (field (fieldShift p') (Z (ix2 g' l2')) : ℝ) : ℝ)) : EReal) * (S (ix2 g2' s') : EReal) := by
    intro p p' a a' l l' l2 l2' g g' g2 g2' s s' h1 h2 h3 h4 h5 h6 h7
    cases h1; cases Fin.ext h2; cases Fin.ext h3; cases Fin.ext h4; cases Fin.ext h5; cases Fin.ext h6; cases Fin.ext h7
    rfl
  have e1 : (128 * (d.val % 8) + d.val / 8) / 128 = d.val % 8 := (by intro a b hb; omega : ∀ a b : ℕ, b < 128 → (128 * a + b) / 128 = a) _ _ (by omega)
  have e2 : (128 * (d.val % 8) + d.val / 8) % 128 = d.val / 8 := (by intro a b hb; omega : ∀ a b : ℕ, b < 128 → (128 * a + b) % 128 = b) _ _ (by omega)
  refine key _ _ _ _ _ _ _ _ _ _ _ _ _ _ ?_ ?_ ?_ ?_ ?_ ?_ ?_
  · show (128 * (d.val % 8) + d.val / 8) / 128 = (1024 * n.val + d.val) % 8; rw [e1]; omega
  · show 1024 * k.val + e.val = 1024 * k.val + e.val; rfl
  · show 128 * n.val + (128 * (d.val % 8) + d.val / 8) % 128 = (1024 * n.val + d.val) / 8; rw [e2]; omega
  · show 128 * n.val + (128 * (d.val % 8) + d.val / 8) % 128 = (1024 * n.val + d.val) / 8; rw [e2]; omega
  · show 8 * k.val + e.val / 128 = (1024 * k.val + e.val) / 128; omega
  · show 8 * k.val + e.val / 128 = (1024 * k.val + e.val) / 128; omega
  · show 1024 * n.val + (8 * ((128 * (d.val % 8) + d.val / 8) % 128) + (128 * (d.val % 8) + d.val / 8) / 128) = 1024 * n.val + d.val; rw [e1, e2]; omega

/-- The eight contributions to a block of the output add up to the formula. -/
theorem parts_eq (X : Vec Ideal S256x8192 .bf16) (Q : Vec Ideal S8192x2048 .i32) (Z : Vec Ideal S64x2048 .i32) (S : Vec Ideal S64x16384 .bf16)
    (n : Fin 16) (r : Fin 256) (d : Fin 1024) :
    ∑ k ∈ Finset.range 8, partN X Q Z S n k r (unCol d)
      = yAt (fun a b => X (ix2 a b)) (fun a b => Q (ix2 a b)) (fun a b => Z (ix2 a b)) (fun a b => S (ix2 a b)) r ⟨1024 * n.val + d.val, by omega⟩ := by
  unfold yAt
  rw [sum_blocks, Finset.sum_range]
  refine Finset.sum_congr rfl fun k _ => ?_
  unfold partN
  rw [dif_pos k.isLt]
  unfold partG
  refine Finset.sum_congr rfl fun e _ => ?_
  rw [wG_eq]

end Cert.KernelIdeal.Value
-- ==== Proof.Value.Ref.lean ====
module

public import proofs.«01_k».proof.Proof.Value.Spec
public import proofs.«01_k».proof.Proof.Gen.ReferenceIdeal.Read

@[expose] public section

set_option maxRecDepth 16384

noncomputable section

/-! The reference's result is the formula. -/

namespace Cert.KernelIdeal.Value

open Idealize.ShloMosaic Idealize.ShloMosaic.ValueIdx
open Cert.ReferenceIdeal.Read

variable (x0 : (⟨Cert.ReferenceIdeal.S256x1x8192, .bf16⟩ : BufTy).Contents (Elt Ideal)) (x1 : (⟨Cert.ReferenceIdeal.S8192x2048, .i32⟩ : BufTy).Contents (Elt Ideal))
  (x2 : (⟨Cert.ReferenceIdeal.S64x2048, .i32⟩ : BufTy).Contents (Elt Ideal)) (x3 : (⟨Cert.ReferenceIdeal.S64x16384, .bf16⟩ : BufTy).Contents (Elt Ideal))

/-- One weight as the reference computes it: its words shifted and masked, converted, subtracted and scaled. -/
theorem host_weight (s : ℕ) (hs : s ≤ 28) (q z : BitVec 32) (x : EReal) :
    FloatOps.mulf (F := Ideal) (φ := .bf16) (FloatOps.subf (F := Ideal) (φ := .bf16)
        (FloatOps.sitofp (F := Ideal) .bf16 (IntOp.andi (IntOp.shrsi .host q (BitVec.ofNat 32 s)) 15#32))
        (FloatOps.sitofp (F := Ideal) .bf16 (IntOp.andi (IntOp.shrsi .host z (BitVec.ofNat 32 s)) 15#32))) x
      = ((((field s q : ℝ) - (field s z : ℝ) : ℝ)) : EReal) * x := by
  show ((((IntOp.andi (IntOp.shrsi .host q (BitVec.ofNat 32 s)) 15#32).toInt : ℝ) : EReal)
      - (((IntOp.andi (IntOp.shrsi .host z (BitVec.ofNat 32 s)) 15#32).toInt : ℝ) : EReal)) * x = _
  rw [host_field s hs, host_field s hs, ← EReal.coe_sub]
  norm_cast

/-- The formula of a weight, from its indices. -/
theorem wAt_of (j p : ℕ) (hj : fieldShift p = 4 * j) (d : Fin 8192) (l : Fin 2048) (hp : p < 8) (iq : Cert.ReferenceIdeal.S8192x2048.Idx) (iz : Cert.ReferenceIdeal.S64x2048.Idx)
    (is : Cert.ReferenceIdeal.S64x16384.Idx) (hq0 : (iq 0).val = d.val) (hq1 : (iq 1).val = l.val) (hz0 : (iz 0).val = d.val / 128) (hz1 : (iz 1).val = l.val)
    (hs0 : (is 0).val = d.val / 128) (hs1 : (is 1).val = 8 * l.val + p) :
    ((((field (4 * j) (x1 iq) : ℝ) - (field (4 * j) (x2 iz) : ℝ) : ℝ)) : EReal) * (x3 is : EReal)
      = wAt (fun a b => x1 (ix2 a b)) (fun a b => x2 (ix2 a b)) (fun a b => x3 (ix2 a b)) d ⟨8 * l.val + p, by omega⟩ := by
  obtain ⟨a, b, rfl⟩ : ∃ a b, iq = ix2 a b := ⟨iq 0, iq 1, eq_ix2 iq⟩
  obtain ⟨a2, b2, rfl⟩ : ∃ a b, iz = ix2 a b := ⟨iz 0, iz 1, eq_ix2 iz⟩
  obtain ⟨a3, b3, rfl⟩ : ∃ a b, is = ix2 a b := ⟨is 0, is 1, eq_ix2 is⟩
  replace hq0 : a.val = d.val := hq0
  replace hq1 : b.val = l.val := hq1
  replace hz0 : a2.val = d.val / 128 := hz0
  replace hz1 : b2.val = l.val := hz1
  replace hs0 : a3.val = d.val / 128 := hs0
  replace hs1 : b3.val = 8 * l.val + p := hs1
  unfold wAt
  have e1 : (8 * l.val + p) % 8 = p := by omega
  have e2 : (8 * l.val + p) / 8 = l.val := by omega
  obtain rfl : a = d := Fin.ext hq0
  obtain rfl : b = l := Fin.ext hq1
  obtain rfl : b2 = b := Fin.ext hz1
  obtain rfl : a3 = a2 := Fin.ext (by omega)
  rw [show (⟨8 * b2.val + p, by omega⟩ : Fin 16384) = b3 from Fin.ext hs1.symm]
  dsimp only
  simp only [hs1, e1, e2, hj]
  have ea : (⟨a.val / 128, by omega⟩ : Fin 64) = a3 := Fin.ext hz0.symm
  rw [ea]

/-- The reference's weights of field 0. -/
theorem ref_weight_0 (i : Cert.ReferenceIdeal.S8192x2048.Idx) : val_main_v20 (F := Ideal) x1 x2 x3 i
    = wAt (fun a b => x1 (ix2 a b)) (fun a b => x2 (ix2 a b)) (fun a b => x3 (ix2 a b)) ⟨(i 0).val, (i 0).isLt⟩ ⟨8 * (i 1).val + 0, by have h : (i 1).val < 2048 := (i 1).isLt; omega⟩ := by
  rw [val_main_v20_apply, val_main_v19_apply, val_main_v17_apply, val_main_v6_apply, val_main_v5_apply, val_main_v4_apply, val_main_v2_apply, val_main_v3_apply, val_main_v1_apply, val_main_c_apply, val_main_c_0_apply,
    val_main_v16_apply, val_main_v12_apply, val_main_v11_apply, val_main_v10_apply, val_main_v8_apply, val_main_v9_apply, val_main_v7_apply, val_main_c_1_apply, val_main_c_2_apply,
    val_main_v18_apply, val_main_v15_apply, val_main_v14_apply, val_main_v13_apply, val_main_v0_apply]
  have h0 : (i 0).val < 8192 := (i 0).isLt
  have h1 : (i 1).val < 2048 := (i 1).isLt
  refine (host_weight 0 (by decide) _ _ _).trans (wAt_of x1 x2 x3 0 0 (by decide) ⟨(i 0).val, (i 0).isLt⟩ ⟨(i 1).val, (i 1).isLt⟩ (by decide) _ _ _ ?_ ?_ ?_ ?_ ?_ ?_)
  · show ((((i 0).val * 2048 + (i 1).val) / 262144 * 128 + ((i 0).val * 2048 + (i 1).val) / 2048 % 128) * 2048 + ((i 0).val * 2048 + (i 1).val) % 2048) / 2048 = (i 0).val; omega
  · show ((((i 0).val * 2048 + (i 1).val) / 262144 * 128 + ((i 0).val * 2048 + (i 1).val) / 2048 % 128) * 2048 + ((i 0).val * 2048 + (i 1).val) % 2048) % 2048 = (i 1).val; omega
  · show ((i 0).val * 2048 + (i 1).val) / 262144 = (i 0).val / 128; omega
  · show ((i 0).val * 2048 + (i 1).val) % 2048 = (i 1).val; omega
  · dsimp only [idx_main_v0, idx_main_v13, idx_main_v14, idx_main_v15, idx_main_v18, idx_main_v20]; omega
  · dsimp only [idx_main_v0, idx_main_v13, idx_main_v14, idx_main_v15, idx_main_v18, idx_main_v20]; omega

/-- The reference's products of field 0. -/
theorem ref_dot_0 (i : Cert.ReferenceIdeal.S256x1x2048.Idx) : val_main_v21 (F := Ideal) x0 x1 x2 x3 i
    = yAt (fun a d => x0 (ix3 a 0 d)) (fun a b => x1 (ix2 a b)) (fun a b => x2 (ix2 a b)) (fun a b => x3 (ix2 a b)) ⟨(i 0).val, (i 0).isLt⟩
      ⟨8 * (i 2).val + 0, by have h : (i 2).val < 2048 := (i 2).isLt; omega⟩ := by
  rw [val_main_v21_apply]
  unfold yAt
  refine Finset.sum_congr rfl fun k _ => ?_
  rw [ref_weight_0]
  refine congrArg₂ (· * ·) (congrArg x0 (funext fun a => ?_)) rfl
  match a with
  | ⟨0, _⟩ => rfl
  | ⟨1, _⟩ => exact Fin.ext (by have h : (i 1).val < 1 := (i 1).isLt; show (i 1).val = 0; omega)
  | ⟨2, _⟩ => rfl

/-- The reference's weights of field 1. -/
theorem ref_weight_1 (i : Cert.ReferenceIdeal.S8192x2048.Idx) : val_main_v41 (F := Ideal) x1 x2 x3 i
    = wAt (fun a b => x1 (ix2 a b)) (fun a b => x2 (ix2 a b)) (fun a b => x3 (ix2 a b)) ⟨(i 0).val, (i 0).isLt⟩ ⟨8 * (i 1).val + 2, by have h : (i 1).val < 2048 := (i 1).isLt; omega⟩ := by
  rw [val_main_v41_apply, val_main_v40_apply, val_main_v38_apply, val_main_v27_apply, val_main_v26_apply, val_main_v25_apply, val_main_v23_apply, val_main_v24_apply, val_main_v22_apply, val_main_c_3_apply, val_main_c_4_apply,
    val_main_v37_apply, val_main_v33_apply, val_main_v32_apply, val_main_v31_apply, val_main_v29_apply, val_main_v30_apply, val_main_v28_apply, val_main_c_5_apply, val_main_c_6_apply,
    val_main_v39_apply, val_main_v36_apply, val_main_v35_apply, val_main_v34_apply, val_main_v0_apply]
  have h0 : (i 0).val < 8192 := (i 0).isLt
  have h1 : (i 1).val < 2048 := (i 1).isLt
  refine (host_weight 4 (by decide) _ _ _).trans (wAt_of x1 x2 x3 1 2 (by decide) ⟨(i 0).val, (i 0).isLt⟩ ⟨(i 1).val, (i 1).isLt⟩ (by decide) _ _ _ ?_ ?_ ?_ ?_ ?_ ?_)
  · show ((((i 0).val * 2048 + (i 1).val) / 262144 * 128 + ((i 0).val * 2048 + (i 1).val) / 2048 % 128) * 2048 + ((i 0).val * 2048 + (i 1).val) % 2048) / 2048 = (i 0).val; omega
  · show ((((i 0).val * 2048 + (i 1).val) / 262144 * 128 + ((i 0).val * 2048 + (i 1).val) / 2048 % 128) * 2048 + ((i 0).val * 2048 + (i 1).val) % 2048) % 2048 = (i 1).val; omega
  · show ((i 0).val * 2048 + (i 1).val) / 262144 = (i 0).val / 128; omega
  · show ((i 0).val * 2048 + (i 1).val) % 2048 = (i 1).val; omega
  · dsimp only [idx_main_v0, idx_main_v34, idx_main_v35, idx_main_v36, idx_main_v39, idx_main_v41]; omega
  · dsimp only [idx_main_v0, idx_main_v34, idx_main_v35, idx_main_v36, idx_main_v39, idx_main_v41]; omega

/-- The reference's products of field 1. -/
theorem ref_dot_1 (i : Cert.ReferenceIdeal.S256x1x2048.Idx) : val_main_v42 (F := Ideal) x0 x1 x2 x3 i
    = yAt (fun a d => x0 (ix3 a 0 d)) (fun a b => x1 (ix2 a b)) (fun a b => x2 (ix2 a b)) (fun a b => x3 (ix2 a b)) ⟨(i 0).val, (i 0).isLt⟩
      ⟨8 * (i 2).val + 2, by have h : (i 2).val < 2048 := (i 2).isLt; omega⟩ := by
  rw [val_main_v42_apply]
  unfold yAt
  refine Finset.sum_congr rfl fun k _ => ?_
  rw [ref_weight_1]
  refine congrArg₂ (· * ·) (congrArg x0 (funext fun a => ?_)) rfl
  match a with
  | ⟨0, _⟩ => rfl
  | ⟨1, _⟩ => exact Fin.ext (by have h : (i 1).val < 1 := (i 1).isLt; show (i 1).val = 0; omega)
  | ⟨2, _⟩ => rfl

/-- The reference's weights of field 2. -/
theorem ref_weight_2 (i : Cert.ReferenceIdeal.S8192x2048.Idx) : val_main_v62 (F := Ideal) x1 x2 x3 i
    = wAt (fun a b => x1 (ix2 a b)) (fun a b => x2 (ix2 a b)) (fun a b => x3 (ix2 a b)) ⟨(i 0).val, (i 0).isLt⟩ ⟨8 * (i 1).val + 4, by have h : (i 1).val < 2048 := (i 1).isLt; omega⟩ := by
  rw [val_main_v62_apply, val_main_v61_apply, val_main_v59_apply, val_main_v48_apply, val_main_v47_apply, val_main_v46_apply, val_main_v44_apply, val_main_v45_apply, val_main_v43_apply, val_main_c_7_apply, val_main_c_8_apply,
    val_main_v58_apply, val_main_v54_apply, val_main_v53_apply, val_main_v52_apply, val_main_v50_apply, val_main_v51_apply, val_main_v49_apply, val_main_c_9_apply, val_main_c_10_apply,
    val_main_v60_apply, val_main_v57_apply, val_main_v56_apply, val_main_v55_apply, val_main_v0_apply]
  have h0 : (i 0).val < 8192 := (i 0).isLt
  have h1 : (i 1).val < 2048 := (i 1).isLt
  refine (host_weight 8 (by decide) _ _ _).trans (wAt_of x1 x2 x3 2 4 (by decide) ⟨(i 0).val, (i 0).isLt⟩ ⟨(i 1).val, (i 1).isLt⟩ (by decide) _ _ _ ?_ ?_ ?_ ?_ ?_ ?_)
  · show ((((i 0).val * 2048 + (i 1).val) / 262144 * 128 + ((i 0).val * 2048 + (i 1).val) / 2048 % 128) * 2048 + ((i 0).val * 2048 + (i 1).val) % 2048) / 2048 = (i 0).val; omega
  · show ((((i 0).val * 2048 + (i 1).val) / 262144 * 128 + ((i 0).val * 2048 + (i 1).val) / 2048 % 128) * 2048 + ((i 0).val * 2048 + (i 1).val) % 2048) % 2048 = (i 1).val; omega
  · show ((i 0).val * 2048 + (i 1).val) / 262144 = (i 0).val / 128; omega
  · show ((i 0).val * 2048 + (i 1).val) % 2048 = (i 1).val; omega
  · dsimp only [idx_main_v0, idx_main_v55, idx_main_v56, idx_main_v57, idx_main_v60, idx_main_v62]; omega
  · dsimp only [idx_main_v0, idx_main_v55, idx_main_v56, idx_main_v57, idx_main_v60, idx_main_v62]; omega

/-- The reference's products of field 2. -/
theorem ref_dot_2 (i : Cert.ReferenceIdeal.S256x1x2048.Idx) : val_main_v63 (F := Ideal) x0 x1 x2 x3 i
    = yAt (fun a d => x0 (ix3 a 0 d)) (fun a b => x1 (ix2 a b)) (fun a b => x2 (ix2 a b)) (fun a b => x3 (ix2 a b)) ⟨(i 0).val, (i 0).isLt⟩
      ⟨8 * (i 2).val + 4, by have h : (i 2).val < 2048 := (i 2).isLt; omega⟩ := by
  rw [val_main_v63_apply]
  unfold yAt
  refine Finset.sum_congr rfl fun k _ => ?_
  rw [ref_weight_2]
  refine congrArg₂ (· * ·) (congrArg x0 (funext fun a => ?_)) rfl
  match a with
  | ⟨0, _⟩ => rfl
  | ⟨1, _⟩ => exact Fin.ext (by have h : (i 1).val < 1 := (i 1).isLt; show (i 1).val = 0; omega)
  | ⟨2, _⟩ => rfl

/-- The reference's weights of field 3. -/
theorem ref_weight_3 (i : Cert.ReferenceIdeal.S8192x2048.Idx) : val_main_v83 (F := Ideal) x1 x2 x3 i
    = wAt (fun a b => x1 (ix2 a b)) (fun a b => x2 (ix2 a b)) (fun a b => x3 (ix2 a b)) ⟨(i 0).val, (i 0).isLt⟩ ⟨8 * (i 1).val + 6, by have h : (i 1).val < 2048 := (i 1).isLt; omega⟩ := by
  rw [val_main_v83_apply, val_main_v82_apply, val_main_v80_apply, val_main_v69_apply, val_main_v68_apply, val_main_v67_apply, val_main_v65_apply, val_main_v66_apply, val_main_v64_apply, val_main_c_11_apply, val_main_c_12_apply,
    val_main_v79_apply, val_main_v75_apply, val_main_v74_apply, val_main_v73_apply, val_main_v71_apply, val_main_v72_apply, val_main_v70_apply, val_main_c_13_apply, val_main_c_14_apply,
    val_main_v81_apply, val_main_v78_apply, val_main_v77_apply, val_main_v76_apply, val_main_v0_apply]
  have h0 : (i 0).val < 8192 := (i 0).isLt
  have h1 : (i 1).val < 2048 := (i 1).isLt
  refine (host_weight 12 (by decide) _ _ _).trans (wAt_of x1 x2 x3 3 6 (by decide) ⟨(i 0).val, (i 0).isLt⟩ ⟨(i 1).val, (i 1).isLt⟩ (by decide) _ _ _ ?_ ?_ ?_ ?_ ?_ ?_)
  · show ((((i 0).val * 2048 + (i 1).val) / 262144 * 128 + ((i 0).val * 2048 + (i 1).val) / 2048 % 128) * 2048 + ((i 0).val * 2048 + (i 1).val) % 2048) / 2048 = (i 0).val; omega
  · show ((((i 0).val * 2048 + (i 1).val) / 262144 * 128 + ((i 0).val * 2048 + (i 1).val) / 2048 % 128) * 2048 + ((i 0).val * 2048 + (i 1).val) % 2048) % 2048 = (i 1).val; omega
  · show ((i 0).val * 2048 + (i 1).val) / 262144 = (i 0).val / 128; omega
  · show ((i 0).val * 2048 + (i 1).val) % 2048 = (i 1).val; omega
  · dsimp only [idx_main_v0, idx_main_v76, idx_main_v77, idx_main_v78, idx_main_v81, idx_main_v83]; omega
  · dsimp only [idx_main_v0, idx_main_v76, idx_main_v77, idx_main_v78, idx_main_v81, idx_main_v83]; omega

/-- The reference's products of field 3. -/
theorem ref_dot_3 (i : Cert.ReferenceIdeal.S256x1x2048.Idx) : val_main_v84 (F := Ideal) x0 x1 x2 x3 i
    = yAt (fun a d => x0 (ix3 a 0 d)) (fun a b => x1 (ix2 a b)) (fun a b => x2 (ix2 a b)) (fun a b => x3 (ix2 a b)) ⟨(i 0).val, (i 0).isLt⟩
      ⟨8 * (i 2).val + 6, by have h : (i 2).val < 2048 := (i 2).isLt; omega⟩ := by
  rw [val_main_v84_apply]
  unfold yAt
  refine Finset.sum_congr rfl fun k _ => ?_
  rw [ref_weight_3]
  refine congrArg₂ (· * ·) (congrArg x0 (funext fun a => ?_)) rfl
  match a with
  | ⟨0, _⟩ => rfl
  | ⟨1, _⟩ => exact Fin.ext (by have h : (i 1).val < 1 := (i 1).isLt; show (i 1).val = 0; omega)
  | ⟨2, _⟩ => rfl

/-- The reference's weights of field 4. -/
theorem ref_weight_4 (i : Cert.ReferenceIdeal.S8192x2048.Idx) : val_main_v104 (F := Ideal) x1 x2 x3 i
    = wAt (fun a b => x1 (ix2 a b)) (fun a b => x2 (ix2 a b)) (fun a b => x3 (ix2 a b)) ⟨(i 0).val, (i 0).isLt⟩ ⟨8 * (i 1).val + 1, by have h : (i 1).val < 2048 := (i 1).isLt; omega⟩ := by
  rw [val_main_v104_apply, val_main_v103_apply, val_main_v101_apply, val_main_v90_apply, val_main_v89_apply, val_main_v88_apply, val_main_v86_apply, val_main_v87_apply, val_main_v85_apply, val_main_c_15_apply, val_main_c_16_apply,
    val_main_v100_apply, val_main_v96_apply, val_main_v95_apply, val_main_v94_apply, val_main_v92_apply, val_main_v93_apply, val_main_v91_apply, val_main_c_17_apply, val_main_c_18_apply,
    val_main_v102_apply, val_main_v99_apply, val_main_v98_apply, val_main_v97_apply, val_main_v0_apply]
  have h0 : (i 0).val < 8192 := (i 0).isLt
  have h1 : (i 1).val < 2048 := (i 1).isLt
  refine (host_weight 16 (by decide) _ _ _).trans (wAt_of x1 x2 x3 4 1 (by decide) ⟨(i 0).val, (i 0).isLt⟩ ⟨(i 1).val, (i 1).isLt⟩ (by decide) _ _ _ ?_ ?_ ?_ ?_ ?_ ?_)
  · show ((((i 0).val * 2048 + (i 1).val) / 262144 * 128 + ((i 0).val * 2048 + (i 1).val) / 2048 % 128) * 2048 + ((i 0).val * 2048 + (i 1).val) % 2048) / 2048 = (i 0).val; omega
  · show ((((i 0).val * 2048 + (i 1).val) / 262144 * 128 + ((i 0).val * 2048 + (i 1).val) / 2048 % 128) * 2048 + ((i 0).val * 2048 + (i 1).val) % 2048) % 2048 = (i 1).val; omega
  · show ((i 0).val * 2048 + (i 1).val) / 262144 = (i 0).val / 128; omega
  · show ((i 0).val * 2048 + (i 1).val) % 2048 = (i 1).val; omega
  · dsimp only [idx_main_v0, idx_main_v97, idx_main_v98, idx_main_v99, idx_main_v102, idx_main_v104]; omega
  · dsimp only [idx_main_v0, idx_main_v97, idx_main_v98, idx_main_v99, idx_main_v102, idx_main_v104]; omega

/-- The reference's products of field 4. -/
theorem ref_dot_4 (i : Cert.ReferenceIdeal.S256x1x2048.Idx) : val_main_v105 (F := Ideal) x0 x1 x2 x3 i
    = yAt (fun a d => x0 (ix3 a 0 d)) (fun a b => x1 (ix2 a b)) (fun a b => x2 (ix2 a b)) (fun a b => x3 (ix2 a b)) ⟨(i 0).val, (i 0).isLt⟩
      ⟨8 * (i 2).val + 1, by have h : (i 2).val < 2048 := (i 2).isLt; omega⟩ := by
  rw [val_main_v105_apply]
  unfold yAt
  refine Finset.sum_congr rfl fun k _ => ?_
  rw [ref_weight_4]
  refine congrArg₂ (· * ·) (congrArg x0 (funext fun a => ?_)) rfl
  match a with
  | ⟨0, _⟩ => rfl
  | ⟨1, _⟩ => exact Fin.ext (by have h : (i 1).val < 1 := (i 1).isLt; show (i 1).val = 0; omega)
  | ⟨2, _⟩ => rfl

/-- The reference's weights of field 5. -/
theorem ref_weight_5 (i : Cert.ReferenceIdeal.S8192x2048.Idx) : val_main_v125 (F := Ideal) x1 x2 x3 i
    = wAt (fun a b => x1 (ix2 a b)) (fun a b => x2 (ix2 a b)) (fun a b => x3 (ix2 a b)) ⟨(i 0).val, (i 0).isLt⟩ ⟨8 * (i 1).val + 3, by have h : (i 1).val < 2048 := (i 1).isLt; omega⟩ := by
  rw [val_main_v125_apply, val_main_v124_apply, val_main_v122_apply, val_main_v111_apply, val_main_v110_apply, val_main_v109_apply, val_main_v107_apply, val_main_v108_apply, val_main_v106_apply, val_main_c_19_apply, val_main_c_20_apply,
    val_main_v121_apply, val_main_v117_apply, val_main_v116_apply, val_main_v115_apply, val_main_v113_apply, val_main_v114_apply, val_main_v112_apply, val_main_c_21_apply, val_main_c_22_apply,
    val_main_v123_apply, val_main_v120_apply, val_main_v119_apply, val_main_v118_apply, val_main_v0_apply]
  have h0 : (i 0).val < 8192 := (i 0).isLt
  have h1 : (i 1).val < 2048 := (i 1).isLt
  refine (host_weight 20 (by decide) _ _ _).trans (wAt_of x1 x2 x3 5 3 (by decide) ⟨(i 0).val, (i 0).isLt⟩ ⟨(i 1).val, (i 1).isLt⟩ (by decide) _ _ _ ?_ ?_ ?_ ?_ ?_ ?_)
  · show ((((i 0).val * 2048 + (i 1).val) / 262144 * 128 + ((i 0).val * 2048 + (i 1).val) / 2048 % 128) * 2048 + ((i 0).val * 2048 + (i 1).val) % 2048) / 2048 = (i 0).val; omega
  · show ((((i 0).val * 2048 + (i 1).val) / 262144 * 128 + ((i 0).val * 2048 + (i 1).val) / 2048 % 128) * 2048 + ((i 0).val * 2048 + (i 1).val) % 2048) % 2048 = (i 1).val; omega
  · show ((i 0).val * 2048 + (i 1).val) / 262144 = (i 0).val / 128; omega
  · show ((i 0).val * 2048 + (i 1).val) % 2048 = (i 1).val; omega
  · dsimp only [idx_main_v0, idx_main_v118, idx_main_v119, idx_main_v120, idx_main_v123, idx_main_v125]; omega
  · dsimp only [idx_main_v0, idx_main_v118, idx_main_v119, idx_main_v120, idx_main_v123, idx_main_v125]; omega

/-- The reference's products of field 5. -/
theorem ref_dot_5 (i : Cert.ReferenceIdeal.S256x1x2048.Idx) : val_main_v126 (F := Ideal) x0 x1 x2 x3 i
    = yAt (fun a d => x0 (ix3 a 0 d)) (fun a b => x1 (ix2 a b)) (fun a b => x2 (ix2 a b)) (fun a b => x3 (ix2 a b)) ⟨(i 0).val, (i 0).isLt⟩
      ⟨8 * (i 2).val + 3, by have h : (i 2).val < 2048 := (i 2).isLt; omega⟩ := by
  rw [val_main_v126_apply]
  unfold yAt
  refine Finset.sum_congr rfl fun k _ => ?_
  rw [ref_weight_5]
  refine congrArg₂ (· * ·) (congrArg x0 (funext fun a => ?_)) rfl
  match a with
  | ⟨0, _⟩ => rfl
  | ⟨1, _⟩ => exact Fin.ext (by have h : (i 1).val < 1 := (i 1).isLt; show (i 1).val = 0; omega)
  | ⟨2, _⟩ => rfl

/-- The reference's weights of field 6. -/
theorem ref_weight_6 (i : Cert.ReferenceIdeal.S8192x2048.Idx) : val_main_v146 (F := Ideal) x1 x2 x3 i
    = wAt (fun a b => x1 (ix2 a b)) (fun a b => x2 (ix2 a b)) (fun a b => x3 (ix2 a b)) ⟨(i 0).val, (i 0).isLt⟩ ⟨8 * (i 1).val + 5, by have h : (i 1).val < 2048 := (i 1).isLt; omega⟩ := by
  rw [val_main_v146_apply, val_main_v145_apply, val_main_v143_apply, val_main_v132_apply, val_main_v131_apply, val_main_v130_apply, val_main_v128_apply, val_main_v129_apply, val_main_v127_apply, val_main_c_23_apply, val_main_c_24_apply,
    val_main_v142_apply, val_main_v138_apply, val_main_v137_apply, val_main_v136_apply, val_main_v134_apply, val_main_v135_apply, val_main_v133_apply, val_main_c_25_apply, val_main_c_26_apply,
    val_main_v144_apply, val_main_v141_apply, val_main_v140_apply, val_main_v139_apply, val_main_v0_apply]
  have h0 : (i 0).val < 8192 := (i 0).isLt
  have h1 : (i 1).val < 2048 := (i 1).isLt
  refine (host_weight 24 (by decide) _ _ _).trans (wAt_of x1 x2 x3 6 5 (by decide) ⟨(i 0).val, (i 0).isLt⟩ ⟨(i 1).val, (i 1).isLt⟩ (by decide) _ _ _ ?_ ?_ ?_ ?_ ?_ ?_)
  · show ((((i 0).val * 2048 + (i 1).val) / 262144 * 128 + ((i 0).val * 2048 + (i 1).val) / 2048 % 128) * 2048 + ((i 0).val * 2048 + (i 1).val) % 2048) / 2048 = (i 0).val; omega
  · show ((((i 0).val * 2048 + (i 1).val) / 262144 * 128 + ((i 0).val * 2048 + (i 1).val) / 2048 % 128) * 2048 + ((i 0).val * 2048 + (i 1).val) % 2048) % 2048 = (i 1).val; omega
  · show ((i 0).val * 2048 + (i 1).val) / 262144 = (i 0).val / 128; omega
  · show ((i 0).val * 2048 + (i 1).val) % 2048 = (i 1).val; omega
  · dsimp only [idx_main_v0, idx_main_v139, idx_main_v140, idx_main_v141, idx_main_v144, idx_main_v146]; omega
  · dsimp only [idx_main_v0, idx_main_v139, idx_main_v140, idx_main_v141, idx_main_v144, idx_main_v146]; omega

/-- The reference's products of field 6. -/
theorem ref_dot_6 (i : Cert.ReferenceIdeal.S256x1x2048.Idx) : val_main_v147 (F := Ideal) x0 x1 x2 x3 i
    = yAt (fun a d => x0 (ix3 a 0 d)) (fun a b => x1 (ix2 a b)) (fun a b => x2 (ix2 a b)) (fun a b => x3 (ix2 a b)) ⟨(i 0).val, (i 0).isLt⟩
      ⟨8 * (i 2).val + 5, by have h : (i 2).val < 2048 := (i 2).isLt; omega⟩ := by
  rw [val_main_v147_apply]
  unfold yAt
  refine Finset.sum_congr rfl fun k _ => ?_
  rw [ref_weight_6]
  refine congrArg₂ (· * ·) (congrArg x0 (funext fun a => ?_)) rfl
  match a with
  | ⟨0, _⟩ => rfl
  | ⟨1, _⟩ => exact Fin.ext (by have h : (i 1).val < 1 := (i 1).isLt; show (i 1).val = 0; omega)
  | ⟨2, _⟩ => rfl

/-- The reference's weights of field 7. -/
theorem ref_weight_7 (i : Cert.ReferenceIdeal.S8192x2048.Idx) : val_main_v167 (F := Ideal) x1 x2 x3 i
    = wAt (fun a b => x1 (ix2 a b)) (fun a b => x2 (ix2 a b)) (fun a b => x3 (ix2 a b)) ⟨(i 0).val, (i 0).isLt⟩ ⟨8 * (i 1).val + 7, by have h : (i 1).val < 2048 := (i 1).isLt; omega⟩ := by
  rw [val_main_v167_apply, val_main_v166_apply, val_main_v164_apply, val_main_v153_apply, val_main_v152_apply, val_main_v151_apply, val_main_v149_apply, val_main_v150_apply, val_main_v148_apply, val_main_c_27_apply, val_main_c_28_apply,
    val_main_v163_apply, val_main_v159_apply, val_main_v158_apply, val_main_v157_apply, val_main_v155_apply, val_main_v156_apply, val_main_v154_apply, val_main_c_29_apply, val_main_c_30_apply,
    val_main_v165_apply, val_main_v162_apply, val_main_v161_apply, val_main_v160_apply, val_main_v0_apply]
  have h0 : (i 0).val < 8192 := (i 0).isLt
  have h1 : (i 1).val < 2048 := (i 1).isLt
  refine (host_weight 28 (by decide) _ _ _).trans (wAt_of x1 x2 x3 7 7 (by decide) ⟨(i 0).val, (i 0).isLt⟩ ⟨(i 1).val, (i 1).isLt⟩ (by decide) _ _ _ ?_ ?_ ?_ ?_ ?_ ?_)
  · show ((((i 0).val * 2048 + (i 1).val) / 262144 * 128 + ((i 0).val * 2048 + (i 1).val) / 2048 % 128) * 2048 + ((i 0).val * 2048 + (i 1).val) % 2048) / 2048 = (i 0).val; omega
  · show ((((i 0).val * 2048 + (i 1).val) / 262144 * 128 + ((i 0).val * 2048 + (i 1).val) / 2048 % 128) * 2048 + ((i 0).val * 2048 + (i 1).val) % 2048) % 2048 = (i 1).val; omega
  · show ((i 0).val * 2048 + (i 1).val) / 262144 = (i 0).val / 128; omega
  · show ((i 0).val * 2048 + (i 1).val) % 2048 = (i 1).val; omega
  · dsimp only [idx_main_v0, idx_main_v160, idx_main_v161, idx_main_v162, idx_main_v165, idx_main_v167]; omega
  · dsimp only [idx_main_v0, idx_main_v160, idx_main_v161, idx_main_v162, idx_main_v165, idx_main_v167]; omega

/-- The reference's products of field 7. -/
theorem ref_dot_7 (i : Cert.ReferenceIdeal.S256x1x2048.Idx) : val_main_v168 (F := Ideal) x0 x1 x2 x3 i
    = yAt (fun a d => x0 (ix3 a 0 d)) (fun a b => x1 (ix2 a b)) (fun a b => x2 (ix2 a b)) (fun a b => x3 (ix2 a b)) ⟨(i 0).val, (i 0).isLt⟩
      ⟨8 * (i 2).val + 7, by have h : (i 2).val < 2048 := (i 2).isLt; omega⟩ := by
  rw [val_main_v168_apply]
  unfold yAt
  refine Finset.sum_congr rfl fun k _ => ?_
  rw [ref_weight_7]
  refine congrArg₂ (· * ·) (congrArg x0 (funext fun a => ?_)) rfl
  match a with
  | ⟨0, _⟩ => rfl
  | ⟨1, _⟩ => exact Fin.ext (by have h : (i 1).val < 1 := (i 1).isLt; show (i 1).val = 0; omega)
  | ⟨2, _⟩ => rfl

/-- The eight products side by side. -/
theorem ref_stack (a : Fin 256) (l : Fin 2048) (p : Fin 8) : val_main_v177 (F := Ideal) x0 x1 x2 x3 (ix4 a 0 l p)
    = yAt (fun a d => x0 (ix3 a 0 d)) (fun a b => x1 (ix2 a b)) (fun a b => x2 (ix2 a b)) (fun a b => x3 (ix2 a b)) a ⟨8 * l.val + p.val, by omega⟩ := by
  unfold val_main_v177
  match p with
  | ⟨0, _⟩ =>
    refine Eq.trans (concatenate_apply_piece (t := Cert.ReferenceIdeal.S256x1x2048x8) 3 _ _ (ix4 a 0 l ⟨0, _⟩) 0 ?_ Cert.ReferenceIdeal.S256x1x2048x1 (val_main_v169 (F := Ideal) x0 x1 x2 x3) rfl rfl 0 ?_ (ix4 a 0 l 0) (fun b hb => ?_) ?_) ?_
    · show 0 < 8; decide
    · rfl
    · match b with
      | ⟨0, _⟩ => rfl
      | ⟨1, _⟩ => rfl
      | ⟨2, _⟩ => rfl
      | ⟨3, _⟩ => exact absurd rfl hb
    · rfl
    · rw [val_main_v169_apply, ref_dot_0]
  | ⟨1, _⟩ =>
    refine Eq.trans (concatenate_apply_piece (t := Cert.ReferenceIdeal.S256x1x2048x8) 3 _ _ (ix4 a 0 l ⟨1, _⟩) 1 ?_ Cert.ReferenceIdeal.S256x1x2048x1 (val_main_v170 (F := Ideal) x0 x1 x2 x3) rfl rfl 1 ?_ (ix4 a 0 l 0) (fun b hb => ?_) ?_) ?_
    · show 1 < 8; decide
    · rfl
    · match b with
      | ⟨0, _⟩ => rfl
      | ⟨1, _⟩ => rfl
      | ⟨2, _⟩ => rfl
      | ⟨3, _⟩ => exact absurd rfl hb
    · rfl
    · rw [val_main_v170_apply, ref_dot_4]
  | ⟨2, _⟩ =>
    refine Eq.trans (concatenate_apply_piece (t := Cert.ReferenceIdeal.S256x1x2048x8) 3 _ _ (ix4 a 0 l ⟨2, _⟩) 2 ?_ Cert.ReferenceIdeal.S256x1x2048x1 (val_main_v171 (F := Ideal) x0 x1 x2 x3) rfl rfl 2 ?_ (ix4 a 0 l 0) (fun b hb => ?_) ?_) ?_
    · show 2 < 8; decide
    · rfl
    · match b with
      | ⟨0, _⟩ => rfl
      | ⟨1, _⟩ => rfl
      | ⟨2, _⟩ => rfl
      | ⟨3, _⟩ => exact absurd rfl hb
    · rfl
    · rw [val_main_v171_apply, ref_dot_1]
  | ⟨3, _⟩ =>
    refine Eq.trans (concatenate_apply_piece (t := Cert.ReferenceIdeal.S256x1x2048x8) 3 _ _ (ix4 a 0 l ⟨3, _⟩) 3 ?_ Cert.ReferenceIdeal.S256x1x2048x1 (val_main_v172 (F := Ideal) x0 x1 x2 x3) rfl rfl 3 ?_ (ix4 a 0 l 0) (fun b hb => ?_) ?_) ?_
    · show 3 < 8; decide
    · rfl
    · match b with
      | ⟨0, _⟩ => rfl
      | ⟨1, _⟩ => rfl
      | ⟨2, _⟩ => rfl
      | ⟨3, _⟩ => exact absurd rfl hb
    · rfl
    · rw [val_main_v172_apply, ref_dot_5]
  | ⟨4, _⟩ =>
    refine Eq.trans (concatenate_apply_piece (t := Cert.ReferenceIdeal.S256x1x2048x8) 3 _ _ (ix4 a 0 l ⟨4, _⟩) 4 ?_ Cert.ReferenceIdeal.S256x1x2048x1 (val_main_v173 (F := Ideal) x0 x1 x2 x3) rfl rfl 4 ?_ (ix4 a 0 l 0) (fun b hb => ?_) ?_) ?_
    · show 4 < 8; decide
    · rfl
    · match b with
      | ⟨0, _⟩ => rfl
      | ⟨1, _⟩ => rfl
      | ⟨2, _⟩ => rfl
      | ⟨3, _⟩ => exact absurd rfl hb
    · rfl
    · rw [val_main_v173_apply, ref_dot_2]
  | ⟨5, _⟩ =>
    refine Eq.trans (concatenate_apply_piece (t := Cert.ReferenceIdeal.S256x1x2048x8) 3 _ _ (ix4 a 0 l ⟨5, _⟩) 5 ?_ Cert.ReferenceIdeal.S256x1x2048x1 (val_main_v174 (F := Ideal) x0 x1 x2 x3) rfl rfl 5 ?_ (ix4 a 0 l 0) (fun b hb => ?_) ?_) ?_
    · show 5 < 8; decide
    · rfl
    · match b with
      | ⟨0, _⟩ => rfl
      | ⟨1, _⟩ => rfl
      | ⟨2, _⟩ => rfl
      | ⟨3, _⟩ => exact absurd rfl hb
    · rfl
    · rw [val_main_v174_apply, ref_dot_6]
  | ⟨6, _⟩ =>
    refine Eq.trans (concatenate_apply_piece (t := Cert.ReferenceIdeal.S256x1x2048x8) 3 _ _ (ix4 a 0 l ⟨6, _⟩) 6 ?_ Cert.ReferenceIdeal.S256x1x2048x1 (val_main_v175 (F := Ideal) x0 x1 x2 x3) rfl rfl 6 ?_ (ix4 a 0 l 0) (fun b hb => ?_) ?_) ?_
    · show 6 < 8; decide
    · rfl
    · match b with
      | ⟨0, _⟩ => rfl
      | ⟨1, _⟩ => rfl
      | ⟨2, _⟩ => rfl
      | ⟨3, _⟩ => exact absurd rfl hb
    · rfl
    · rw [val_main_v175_apply, ref_dot_3]
  | ⟨7, _⟩ =>
    refine Eq.trans (concatenate_apply_piece (t := Cert.ReferenceIdeal.S256x1x2048x8) 3 _ _ (ix4 a 0 l ⟨7, _⟩) 7 ?_ Cert.ReferenceIdeal.S256x1x2048x1 (val_main_v176 (F := Ideal) x0 x1 x2 x3) rfl rfl 7 ?_ (ix4 a 0 l 0) (fun b hb => ?_) ?_) ?_
    · show 7 < 8; decide
    · rfl
    · match b with
      | ⟨0, _⟩ => rfl
      | ⟨1, _⟩ => rfl
      | ⟨2, _⟩ => rfl
      | ⟨3, _⟩ => exact absurd rfl hb
    · rfl
    · rw [val_main_v176_apply, ref_dot_7]

/-- **The reference's result is the formula.** -/
theorem ref_eq (a : Fin 256) (col : Fin 16384) : val_main_v179 (F := Ideal) x0 x1 x2 x3 (ix3 a 0 col)
    = yAt (fun a d => x0 (ix3 a 0 d)) (fun a b => x1 (ix2 a b)) (fun a b => x2 (ix2 a b)) (fun a b => x3 (ix2 a b)) a col := by
  rw [val_main_v179_apply]
  show val_main_v178 (F := Ideal) x0 x1 x2 x3 (ix3 a 0 col) = _
  rw [val_main_v178_apply]
  have e : idx_main_v178 (ix3 a 0 col) = ix4 a 0 ⟨col.val / 8, by omega⟩ ⟨col.val % 8, Nat.mod_lt _ (by decide)⟩ := funext fun b => by
    match b with
    | ⟨0, _⟩ => exact Fin.ext (by show ((a.val * 1 + 0) * 16384 + col.val) / 16384 = a.val; omega)
    | ⟨1, _⟩ => rfl
    | ⟨2, _⟩ => exact Fin.ext (by show ((a.val * 1 + 0) * 16384 + col.val) / 8 % 2048 = col.val / 8; omega)
    | ⟨3, _⟩ => exact Fin.ext (by show ((a.val * 1 + 0) * 16384 + col.val) % 8 = col.val % 8; omega)
  rw [e, ref_stack]
  exact congrArg _ (Fin.ext (by show 8 * (col.val / 8) + col.val % 8 = col.val; omega))

end Cert.KernelIdeal.Value
-- ==== Proof.Value.Algebraic.lean ====
module

public import proofs.«01_k».proof.Defs
public import proofs.«01_k».proof.Proof.Value.Ref
public import Idealize.ShloMosaic.Lib.Claim

@[expose] public section

set_option maxRecDepth 16384

noncomputable section

/-! The idealized kernel's result is the reference's. -/

namespace Cert.KernelIdeal.Value

open Idealize.ShloMosaic Idealize.ShloMosaic.TcCoe Idealize.ShloMosaic.Tactic Idealize.SL.Sem
open Idealize.ShloMosaic.Pipeline (Dat Cfg Window)
open Cert.KernelIdeal Cert.KernelIdeal.Gen Idealize.ShloMosaic.ValueIdx

variable (m : (ℓ : Loc nD τ sig) → Buf (Elt Ideal) ℓ) (c : Dev nD)

/-- The activations the region reads are the argument's, its unit axis dropped. -/
theorem AX_apply (a : Fin 256) (d : Fin 8192) : AX m c (ix2 a d) = (m ((c : Thread nD τ).loc main_arg0) : Vec Ideal S256x1x8192 .bf16) (ix3 a 0 d) := by
  have e : V m c main_v0 = (shapeCast S256x8192 (m ((c : Thread nD τ).loc main_arg0) : Vec Ideal S256x1x8192 .bf16) shapeCasts_S256x1x8192_S256x8192 : Vec Ideal S256x8192 .bf16) := by
    show StableHlo.after (hostOps0 (F := Ideal)) (fun b => m (c, b)) (Proc.devRef .tc main_v0) = _
    after_results
    rfl
  show (V m c main_v0 : Vec Ideal S256x8192 .bf16) (ix2 a d) = _
  rw [e]
  exact shapeCast_apply _ shapeCasts_S256x1x8192_S256x8192 (ix2 a d) (ix3 a 0 d)
    (by rewrite [Shape.rowMajor_val_three, Shape.rowMajor_val_two]; show (a.val * 1 + 0) * 8192 + d.val = a.val * 8192 + d.val; omega)

/-- The formula at the arguments. -/
def yOf (a : Fin 256) (col : Fin 16384) : EReal :=
  yAt (fun a d => (m ((c : Thread nD τ).loc main_arg0) : Vec Ideal S256x1x8192 .bf16) (ix3 a 0 d))
    (fun a b => (m ((c : Thread nD τ).loc main_arg1) : Vec Ideal S8192x2048 .i32) (ix2 a b))
    (fun a b => (m ((c : Thread nD τ).loc main_arg2) : Vec Ideal S64x2048 .i32) (ix2 a b))
    (fun a b => (m ((c : Thread nD τ).loc main_arg3) : Vec Ideal S64x16384 .bf16) (ix2 a b)) a col

/-- The output array is the formula. -/
theorem outG_eq (a : Fin 256) (col : Fin 16384) : (outG m c : Vec Ideal S256x16384 .bf16) (ix2 a col) = yOf m c a col := by
  show GO m c a ⟨col.val / 1024, _⟩ ⟨col.val % 1024, _⟩ = _
  unfold GO yOf
  rw [parts_eq]
  have e1 : AQ m c = (m ((c : Thread nD τ).loc main_arg1) : Vec Ideal S8192x2048 .i32) := V_main_arg1 m c
  have e2 : AZ m c = (m ((c : Thread nD τ).loc main_arg2) : Vec Ideal S64x2048 .i32) := V_main_arg2 m c
  have e3 : AS m c = (m ((c : Thread nD τ).loc main_arg3) : Vec Ideal S64x16384 .bf16) := V_main_arg3 m c
  have e0 : (fun a d => AX m c (ix2 a d)) = fun (a : Fin 256) (d : Fin 8192) => (m ((c : Thread nD τ).loc main_arg0) : Vec Ideal S256x1x8192 .bf16) (ix3 a 0 d) :=
    funext fun a => funext fun d => AX_apply m c a d
  rw [e0, e1, e2, e3]
  exact congrArg _ (Fin.ext (by show 1024 * (col.val / 1024) + col.val % 1024 = col.val; omega))

/-- The result, from the output array. -/
def res : Buf (Elt Ideal) ((c : Thread nD τ).loc main_v2) := shapeCast S256x1x16384 (outG m c : Vec Ideal S256x16384 .bf16) shapeCasts_S256x16384_S256x1x16384

/-- What the host line after the region leaves in the result. -/
theorem W_main_v2 : Pipeline.afterTail₀ cfgs (dats m) 0 (V0 m) [hostOps1] c main_v2 = res m c := by
  unfold Pipeline.afterTail₀
  show StableHlo.after (hostOps1 (F := Ideal)) _ (Proc.devRef .tc main_v2) = _
  after_results
  have e := (Pipeline.withArrays_arr (spec0) (by decide) c (V0 m c) (fun w => (dats m 0 c).arrAt w cfg0.N) 4).trans (final m c)
  exact congrArg (fun x : Vec Ideal S256x16384 .bf16 => (shapeCast S256x1x16384 x shapeCasts_S256x16384_S256x1x16384 : Vec Ideal S256x1x16384 .bf16)) e

/-- The result is the formula. -/
theorem res_apply (a : Fin 256) (col : Fin 16384) : (res m c : Vec Ideal S256x1x16384 .bf16) (ix3 a 0 col) = yOf m c a col :=
  (shapeCast_apply _ shapeCasts_S256x16384_S256x1x16384 (ix3 a 0 col) (ix2 a col)
    (by rewrite [Shape.rowMajor_val_three, Shape.rowMajor_val_two]; show a.val * 16384 + col.val = (a.val * 1 + 0) * 16384 + col.val; omega)).trans (outG_eq m c a col)

/-- Every run of the idealized kernel ends with the result at `res` and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v2) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v2 (Pipeline.mem_restRefs_of main_v2 (by decide) (by decide))).trans (W_main_v2 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

/-- **From equal arguments the idealized kernel and the reference end with equal results.** -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => res m c, run m g, ?_⟩
  refine (θ_run Cert.ReferenceIdeal.defs _ _).mono (fun r h c => ⟨(h c).1.trans ?_, (h c).2⟩) (Cert.ReferenceIdeal.Value.run m' g')
  obtain ⟨h0, h1, h2, h3⟩ := hargs c
  rw [Cert.ReferenceIdeal.Read.val_main_v179_eq]
  funext i
  obtain ⟨a, b, col, rfl⟩ : ∃ (a : Fin 256) (b : Fin 1) (col : Fin 16384), i = ix3 a b col := ⟨i 0, i 1, i 2, eq_ix3 i⟩
  obtain rfl : b = 0 := Subsingleton.elim _ _
  refine (ref_eq _ _ _ _ a col).trans (Eq.trans ?_ (res_apply m c a col).symm)
  have e0 : (StableHlo.launchContents m' c (Proc.devRef .tc Cert.ReferenceIdeal.main_arg0) : Vec Ideal S256x1x8192 .bf16) = m ((c.tc : Thread nD τ).loc main_arg0) := h0
  have e1 : (StableHlo.launchContents m' c (Proc.devRef .tc Cert.ReferenceIdeal.main_arg1) : Vec Ideal S8192x2048 .i32) = m ((c.tc : Thread nD τ).loc main_arg1) := h1
  have e2 : (StableHlo.launchContents m' c (Proc.devRef .tc Cert.ReferenceIdeal.main_arg2) : Vec Ideal S64x2048 .i32) = m ((c.tc : Thread nD τ).loc main_arg2) := h2
  have e3 : (StableHlo.launchContents m' c (Proc.devRef .tc Cert.ReferenceIdeal.main_arg3) : Vec Ideal S64x16384 .bf16) = m ((c.tc : Thread nD τ).loc main_arg3) := h3
  rw [e0, e1, e2, e3]
  rfl

end Cert.KernelIdeal.Value
-- ==== Proof.lean ====
module

public import proofs.«01_k».proof.Defs
public import proofs.«01_k».proof.Proof.Gen.Kernel
public import proofs.«01_k».proof.Proof.Kernel.Frame
public import proofs.«01_k».proof.Proof.Gen.KernelIdeal
public import proofs.«01_k».proof.Proof.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Value.Algebraic
public import Idealize.ShloMosaic.Lib.Quiescent
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem

/-- The reference runs, its arguments end unchanged and no semaphore counter is left raised (it declares none). -/
theorem reference_frame : Cert.quiescent_ReferenceIdeal (hReferenceIdeal := Cert.ReferenceIdeal.Gen.facts) := fun m g _ =>
  (θ_run Cert.ReferenceIdeal.defs _ _).mono (fun _ h => ⟨fun c => (h c).2, sem_eq_zero_of_no_sems rfl _⟩)
    (Cert.ReferenceIdeal.Value.run m g)

/-- The rewrites that give the idealized kernel: the pair scratch, and words read as two bf16 halves at each shape. -/
theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _⟩

/-- Everything claimed: the three frames, the rewrites, and that the idealized kernel's result is the reference's. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, preserves,
  Cert.KernelIdeal.Value.algebraic⟩

end Cert.Proof
